-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x8192 : Shape := ⟨2, ![128, 8192]⟩
abbrev S8192x512 : Shape := ⟨2, ![8192, 512]⟩
abbrev S512 : Shape := ⟨1, ![512]⟩
abbrev S512x8192 : Shape := ⟨2, ![512, 8192]⟩
abbrev S8192 : Shape := ⟨1, ![8192]⟩
abbrev S1x512 : Shape := ⟨2, ![1, 512]⟩
abbrev S1x8192 : Shape := ⟨2, ![1, 8192]⟩
abbrev S4096x512 : Shape := ⟨2, ![4096, 512]⟩
abbrev S512x2048 : Shape := ⟨2, ![512, 2048]⟩
abbrev S1x2048 : Shape := ⟨2, ![1, 2048]⟩
abbrev S128x2048 : Shape := ⟨2, ![128, 2048]⟩
abbrev S128x512 : Shape := ⟨2, ![128, 512]⟩
abbrev S128x128 : Shape := ⟨2, ![128, 128]⟩
abbrev S128x4096 : Shape := ⟨2, ![128, 4096]⟩
abbrev S128x1 : Shape := ⟨2, ![128, 1]⟩
abbrev S128 : Shape := ⟨1, ![128]⟩

abbrev nBuf : Space → Nat
  | .hbm => 9
  | .vmem => 16
  | .smem => 0
  | _ => 0

abbrev bufTy : (tb : Table) → Fin (tcTables nBuf tb) → BufTy
  | .hbm, ⟨0, _⟩ => ⟨S128x8192, .f32⟩
  | .hbm, ⟨1, _⟩ => ⟨S8192x512, .f32⟩
  | .hbm, ⟨2, _⟩ => ⟨S512, .f32⟩
  | .hbm, ⟨3, _⟩ => ⟨S512x8192, .f32⟩
  | .hbm, ⟨4, _⟩ => ⟨S8192, .f32⟩
  | .hbm, ⟨5, _⟩ => ⟨S1x512, .f32⟩
  | .hbm, ⟨6, _⟩ => ⟨S1x8192, .f32⟩
  | .hbm, ⟨7, _⟩ => ⟨S128x8192, .f32⟩
  | .hbm, ⟨8, _⟩ => ⟨S128x8192, .f32⟩
  | .local _ .vmem, ⟨0, _⟩ => ⟨S128x8192, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x512, .f32⟩
  | .local _ .vmem, ⟨13, _⟩ => ⟨S128x128, .f32⟩
  | .local _ .vmem, ⟨14, _⟩ => ⟨S128x8192, .f32⟩
  | .local _ .vmem, ⟨15, _⟩ => ⟨S128x4096, .i32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 10], ![false, false]⟩

def k0_cond1 (i : grid0.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_11 : Index := 0#32
  let arg1 : BitVec 32 := BitVec.ofNat 32 (i 1).val
  let c1_i32 : BitVec 32 := 1#32
  let v20 : BitVec 32 := Scalar.minsi arg1 c1_i32
  let c4096_i32 : BitVec 32 := 4096#32
  let v22 : BitVec 32 := Scalar.muli v20 c4096_i32
  let v23 : Index := Scalar.indexCast v22
  ![0, v23.toNat]
def k0_cond4 (i : grid0.Coords) : BitVec 1 :=
  let arg1 : BitVec 32 := BitVec.ofNat 32 (i 1).val
  let c2_i32_2 : BitVec 32 := 2#32
  let v6 : BitVec 1 := Scalar.cmpi .sge arg1 c2_i32_2
  let c6_i32 : BitVec 32 := 6#32
  let v7 : BitVec 1 := Scalar.cmpi .slt arg1 c6_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let c0_16 : Index := 0#32
  let arg1 : BitVec 32 := BitVec.ofNat 32 (i 1).val
  let c2_i32_8 : BitVec 32 := 2#32
  let v17 : BitVec 32 := Scalar.subi arg1 c2_i32_8
  let c2048_i32 : BitVec 32 := 2048#32
  let v27 : BitVec 32 := Scalar.muli v17 c2048_i32
  let v28 : Index := Scalar.indexCast v27
  ![0, v28.toNat]
def k0_cond5 (i : grid0.Coords) : BitVec 1 :=
  let arg1 : BitVec 32 := BitVec.ofNat 32 (i 1).val
  let c2_i32_8 : BitVec 32 := 2#32
  let v17 : BitVec 32 := Scalar.subi arg1 c2_i32_8
  let c2_i32_25 : BitVec 32 := 2#32
  let v48 : BitVec 1 := Scalar.cmpi .slt v17 c2_i32_25
  let v49 : BitVec 32 := Scalar.extui v48
  let c0_i32_26 : BitVec 32 := 0#32
  let v50 : BitVec 1 := Scalar.cmpi .ne v49 c0_i32_26
  v50

def k0_off3 (i : grid0.Coords) : Fin 2 → Nat :=
  let c0_29 : Index := 0#32
  let arg1 : BitVec 32 := BitVec.ofNat 32 (i 1).val
  let c2_i32_8 : BitVec 32 := 2#32
  let v17 : BitVec 32 := Scalar.subi arg1 c2_i32_8
  let c2_i32_19 : BitVec 32 := 2#32
  let c0_i32_20 : BitVec 32 := 0#32
  let v37 : BitVec 1 := Scalar.cmpi .eq c2_i32_19 c0_i32_20
  let c1_i32 : BitVec 32 := 1#32
  let v38 : BitVec 32 := Scalar.select v37 c1_i32 c2_i32_19
  let v39 : BitVec 32 := Scalar.remsi v17 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c2048_i32_24 : BitVec 32 := 2048#32
  let v47 : BitVec 32 := Scalar.muli v46 c2048_i32_24
  let v58 : Index := Scalar.indexCast v47
  ![0, v58.toNat]
def k0_cond6 (i : grid0.Coords) : BitVec 1 :=
  let arg1 : BitVec 32 := BitVec.ofNat 32 (i 1).val
  let c2_i32_8 : BitVec 32 := 2#32
  let v17 : BitVec 32 := Scalar.subi arg1 c2_i32_8
  let c2_i32_27 : BitVec 32 := 2#32
  let v51 : BitVec 1 := Scalar.cmpi .sge v17 c2_i32_27
  let v52 : BitVec 32 := Scalar.extui v51
  let c0_i32_28 : BitVec 32 := 0#32
  let v53 : BitVec 1 := Scalar.cmpi .ne v52 c0_i32_28
  v53

def k0_off4 (i : grid0.Coords) : Fin 2 → Nat :=
  let c0_29 : Index := 0#32
  let arg1 : BitVec 32 := BitVec.ofNat 32 (i 1).val
  let c2_i32_8 : BitVec 32 := 2#32
  let v17 : BitVec 32 := Scalar.subi arg1 c2_i32_8
  let c2_i32_19 : BitVec 32 := 2#32
  let c0_i32_20 : BitVec 32 := 0#32
  let v37 : BitVec 1 := Scalar.cmpi .eq c2_i32_19 c0_i32_20
  let c1_i32 : BitVec 32 := 1#32
  let v38 : BitVec 32 := Scalar.select v37 c1_i32 c2_i32_19
  let v39 : BitVec 32 := Scalar.remsi v17 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let c2048_i32_24 : BitVec 32 := 2048#32
  let v47 : BitVec 32 := Scalar.muli v46 c2048_i32_24
  let v54 : Index := Scalar.indexCast v47
  ![0, v54.toNat]
def k0_cond7 (i : grid0.Coords) : BitVec 1 :=
  let arg1 : BitVec 32 := BitVec.ofNat 32 (i 1).val
  let c6_i32_4 : BitVec 32 := 6#32
  let v11 : BitVec 1 := Scalar.cmpi .eq arg1 c6_i32_4
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_9 : BitVec 32 := 0#32
  let c11_i32 : BitVec 32 := 11#32
  let v19 : BitVec 32 := Scalar.addi c0_i32_9 c11_i32
  let c1_i32 : BitVec 32 := 1#32
  ⟨c0_i32_9, v19, c1_i32⟩
def k0_cond8 (i : grid0.Coords) : BitVec 1 :=
  let arg1 : BitVec 32 := BitVec.ofNat 32 (i 1).val
  let c6_i32_6 : BitVec 32 := 6#32
  let v14 : BitVec 1 := Scalar.cmpi .sge arg1 c6_i32_6
  let v15 : BitVec 32 := Scalar.extui v14
  let c0_i32_7 : BitVec 32 := 0#32
  let v16 : BitVec 1 := Scalar.cmpi .ne v15 c0_i32_7
  v16

def k0_off5 (i : grid0.Coords) : Fin 2 → Nat :=
  let c0 : Index := 0#32
  let arg1 : BitVec 32 := BitVec.ofNat 32 (i 1).val
  let c6_i32_8 : BitVec 32 := 6#32
  let v17 : BitVec 32 := Scalar.subi arg1 c6_i32_8
  let c2048_i32 : BitVec 32 := 2048#32
  let v18 : BitVec 32 := Scalar.muli v17 c2048_i32
  let v19 : Index := Scalar.indexCast v18
  ![0, v19.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S128x8192 : Shape := ⟨2, ![128, 8192]⟩
abbrev S8192x512 : Shape := ⟨2, ![8192, 512]⟩
abbrev S512 : Shape := ⟨1, ![512]⟩
abbrev S512x8192 : Shape := ⟨2, ![512, 8192]⟩
abbrev S8192 : Shape := ⟨1, ![8192]⟩
abbrev S128x512 : Shape := ⟨2, ![128, 512]⟩
abbrev S1x512 : Shape := ⟨2, ![1, 512]⟩
abbrev S_ : Shape := ⟨0, ![]⟩
abbrev S1x8192 : Shape := ⟨2, ![1, 8192]⟩
abbrev S128x256 : Shape := ⟨2, ![128, 256]⟩
abbrev S128x1 : Shape := ⟨2, ![128, 1]⟩

abbrev nBuf : Space → Nat
  | .hbm => 57
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S8192x512, .f32⟩
  | .hbm, ⟨2, _⟩ => ⟨S512, .f32⟩
  | .hbm, ⟨3, _⟩ => ⟨S512x8192, .f32⟩
  | .hbm, ⟨4, _⟩ => ⟨S8192, .f32⟩
  | .hbm, ⟨5, _⟩ => ⟨S128x512, .f32⟩
  | .hbm, ⟨6, _⟩ => ⟨S1x512, .f32⟩
  | .hbm, ⟨7, _⟩ => ⟨S128x512, .f32⟩
  | .hbm, ⟨8, _⟩ => ⟨S128x512, .f32⟩
  | .hbm, ⟨9, _⟩ => ⟨S_, .f32⟩
  | .hbm, ⟨10, _⟩ => ⟨S128x512, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S128x8192, .f32⟩
  | .hbm, ⟨19, _⟩ => ⟨S1x8192, .f32⟩
  | .hbm, ⟨20, _⟩ => ⟨S128x8192, .f32⟩
  | .hbm, ⟨21, _⟩ => ⟨S128x8192, .f32⟩
  | .hbm, ⟨22, _⟩ => ⟨S128x8192, .f32⟩
  | .hbm, ⟨23, _⟩ => ⟨S128x8192, .f32⟩
  | .hbm, ⟨24, _⟩ => ⟨S_, .f32⟩
  | .hbm, ⟨25, _⟩ => ⟨S128x8192, .f32⟩
  | .hbm, ⟨26, _⟩ => ⟨S128x8192, .f32⟩
  | .hbm, ⟨27, _⟩ => ⟨S_, .f32⟩
  | .hbm, ⟨28, _⟩ => ⟨S128x8192, .f32⟩
  | .hbm, ⟨29, _⟩ => ⟨S128x8192, .f32⟩
  | .hbm, ⟨30, _⟩ => ⟨S128x256, .f32⟩
  | .hbm, ⟨31, _⟩ => ⟨S128x256, .i32⟩
  | .hbm, ⟨32, _⟩ => ⟨S128x1, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S_, .f32⟩
  | .hbm, ⟨38, _⟩ => ⟨S128x1, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x8192, .f32⟩
  | .hbm, ⟨44, _⟩ => ⟨S128x8192, .f32⟩
  | .hbm, ⟨45, _⟩ => ⟨S_, .f32⟩
  | .hbm, ⟨46, _⟩ => ⟨S128x8192, .f32⟩
  | .hbm, ⟨47, _⟩ => ⟨S128x8192, .f32⟩
  | .hbm, ⟨48, _⟩ => ⟨S128x8192, .f32⟩
  | .hbm, ⟨49, _⟩ => ⟨S128x8192, .f32⟩
  | .hbm, ⟨50, _⟩ => ⟨S_, .f32⟩
  | .hbm, ⟨51, _⟩ => ⟨S128x8192, .f32⟩
  | .hbm, ⟨52, _⟩ => ⟨S128x8192, .f32⟩
  | .hbm, ⟨53, _⟩ => ⟨S_, .f32⟩
  | .hbm, ⟨54, _⟩ => ⟨S128x8192, .f32⟩
  | .hbm, ⟨55, _⟩ => ⟨S128x8192, .f32⟩
  | .hbm, ⟨56, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_values : Ref sig .tc := ⟨.hbm, 30, rfl⟩
abbrev main_indices : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Proof.BodyA.lean ====
/-
  The kernel's body, phase by phase: what each kind of grid point leaves in the buffers it touches, from any contents of them,
  through the named values of the printed body.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The condition `j = 0`, as the kernel computes it. -/
abbrev isFirst (i : grid0.Coords) : BitVec 1 :=
  Scalar.cmpi .ne (Scalar.extui (Scalar.cmpi .eq (BitVec.ofNat 32 (i 1).val) 0#32) : BitVec 32) 0#32
/-- The condition `j = 2`, as the kernel computes it. -/
abbrev isGelu (i : grid0.Coords) : BitVec 1 :=
  Scalar.cmpi .ne (Scalar.extui (Scalar.cmpi .eq (BitVec.ofNat 32 (i 1).val) 2#32) : BitVec 32) 0#32

variable (c : Dev nD) (i : grid0.Coords)
    (M2 : Memref sig .tc .vmem S128x8192 .f32) (h2 : M2.IsWhole) (M3 : Memref sig .tc .vmem S4096x512 .f32) (h3 : M3.IsWhole)
    (M4 : Memref sig .tc .vmem S1x512 .f32) (h4 : M4.IsWhole) (M5 : Memref sig .tc .vmem S512x2048 .f32) (h5 : M5.IsWhole)
    (M6 : Memref sig .tc .vmem S1x2048 .f32) (h6 : M6.IsWhole) (M7 : Memref sig .tc .vmem S128x2048 .f32) (h7 : M7.IsWhole)
    (M8 : Memref sig .tc .vmem S128x2048 .f32) (h8 : M8.IsWhole) (M9 : Memref sig .tc .vmem S128x512 .f32) (h9 : M9.IsWhole)
    (M10 : Memref sig .tc .vmem S128x128 .f32) (h10 : M10.IsWhole) (M11 : Memref sig .tc .vmem S128x8192 .f32) (h11 : M11.IsWhole)
    (M12 : Memref sig .tc .vmem S128x4096 .i32) (h12 : M12.IsWhole)

/-- A load of a whole view reads the view. -/
theorem readFull {Val : EltTy → Type} {κ : Kind} {sp : Space} {s : Shape} {e : EltTy} (v : View sig κ sp s e) (f : v.ty.Contents Val)
    {off : Fin s.rank → ℕ} (inb : ∀ a, off a + s.size a ≤ s.size a) :
    v.readAt Val (Rect.unit off (no_index s.size) inb).toLoadRect f = v.read Val f :=
  View.readAt_full v f inb

/-- A load of a part of a view reads the view's window there. -/
theorem readWindow {Val : EltTy → Type} {κ : Kind} {sp : Space} {s : Shape} {e : EltTy} (v : View sig κ sp s e) (f : v.ty.Contents Val)
    {off size : Fin s.rank → ℕ} (inb : ∀ a, off a + size a ≤ s.size a) :
    v.readAt Val (Rect.unit off size inb).toLoadRect f = VecWindow.window (v.read Val f) off size inb :=
  View.readAt_unit v f inb rfl inb

/-- A load of a whole view after a store of the whole view reads what was stored. -/
theorem readBack {Val : EltTy → Type} [∀ e, Nonempty (Val e)] {κ : Kind} {sp : Space} {s : Shape} {e : EltTy} (v : View sig κ sp s e)
    {off off' : Fin s.rank → ℕ} (inb : ∀ a, off a + s.size a ≤ s.size a) (inb' : ∀ a, off' a + s.size a ≤ s.size a)
    (w : s.Idx → Val e) (L : List (View.Piece Val s e)) :
    v.readCov (⟨Rect.unit off' (no_index s.size) inb', w⟩ :: L) (Rect.unit off (no_index s.size) inb).toLoadRect = w :=
  View.readCov_full v inb inb' w L

/-- After a store of a whole view, the view reads what was stored. -/
theorem writeFull {Val : EltTy → Type} {κ : Kind} {sp : Space} {s : Shape} {e : EltTy} (v : View sig κ sp s e) (f : v.ty.Contents Val)
    {off : Fin s.rank → ℕ} (inb : ∀ a, off a + s.size a ≤ s.size a) (w : s.Idx → Val e) (L : List (View.Piece Val s e)) :
    v.read Val (v.writes Val f (⟨Rect.unit off (no_index s.size) inb, w⟩ :: L)) = w :=
  View.read_writes_full v f inb w L

/-- One trip of the bisection, on the pair of ends: the packed words `X` decide which half is kept. -/
def bisect (X : Vec F S128x4096 .i32) (a : IVec S128x1 32 × IVec S128x1 32) : IVec S128x1 32 × IVec S128x1 32 :=
  (k0_pay9 a.1 a.2 X, k0_pay10 a.1 a.2 X)

/-- One trip of the printed loop is one step of the bisection. -/
theorem trip_eq (bd : Option Variants.none.V) (hc7 : k0_cond7 i = 1#1) (X : Vec F S128x4096 .i32) (k : Fin k0_t1_loop.trips)
    (acc : IVec S128x1 32 × IVec S128x1 32) :
    tripR_k0_t1 (F := F) Variants.none c bd i M2 h2 M3 h3 M4 h4 M5 h5 M6 h6 M7 h7 M8 h8 M9 h9 M10 h10 M11 h11 M12 h12 hc7 (h12.unread X) k acc
      = bisect X acc := by
  unfold tripR_k0_t1 trip_k0_t1
  dsimp only
  sl_unfold_words
  have e : View.readAt (Elt F) M12.view (Rect.unit ![0, 0] S128x4096.size inb_S128x4096_S128x4096_0_0).toLoadRect (h12.unread X) = X :=
    (View.readAt_full _ _ _).trans (h12.read_unread X)
  exact congrArg (fun Y => (k0_pay9 acc.1 acc.2 Y, k0_pay10 acc.1 acc.2 Y)) e

/-- The printed loop's value before trip `k` is `k` steps of the bisection. -/
theorem search_eq (bd : Option Variants.none.V) (hc7 : k0_cond7 i = 1#1) (X : Vec F S128x4096 .i32)
    (init : IVec S128x1 32 × IVec S128x1 32) (k : ℕ) (hk : k ≤ k0_t1_loop.trips) :
    st_k0_t1 (F := F) Variants.none c bd i M2 h2 M3 h3 M4 h4 M5 h5 M6 h6 M7 h7 M8 h8 M9 h9 M10 h10 M11 h11 M12 h12 hc7 (h12.unread X) init k
      = (bisect X)^[k] init := by
  induction k with
  | zero => rfl
  | succ k ih =>
    have h := st_k0_t1_succ (F := F) Variants.none c bd i M2 h2 M3 h3 M4 h4 M5 h5 M6 h6 M7 h7 M8 h8 M9 h9 M10 h10 M11 h11 M12 h12 hc7
      (h12.unread X) init ⟨k, hk⟩
    rw [trip_eq] at h
    rw [Function.iterate_succ_apply', ← ih (by omega)]
    exact h

/-- The bisection's lower end after the loop's eleven trips. -/
def search (X : Vec F S128x4096 .i32) : IVec S128x1 32 := ((bisect X)^[11] (k0_pay5, k0_pay6)).1

/-- The printed loop's lower end, as the run names it, is the bisection's. -/
theorem search_end (bd : Option Variants.none.V) (hc7 : k0_cond7 i = 1#1) (X : Vec F S128x4096 .i32) :
    (st_k0_t1 (F := F) Variants.none c bd i M2 h2 M3 h3 M4 h4 M5 h5 M6 h6 M7 h7 M8 h8 M9 h9 M10 h10 M11 h11 M12 h12 hc7 (h12.unread X)
      (k0_pay5, k0_pay6) (Scf.trips k0_t1_loop.lb k0_t1_loop.ub k0_t1_loop.st)).1 = search X := by
  rw [show Scf.trips k0_t1_loop.lb k0_t1_loop.ub k0_t1_loop.st = 11 by decide, search_eq _ _ _ _ _ _ _ _ _ _ _ _ _ _ _ _ _ _ _ _ _ _ _ _ _ _ _ _ _ (by decide)]
  rfl

/-- The first point: the accumulator is cleared and takes the first half of the hidden layer's product. -/
theorem run_first (hc1 : k0_cond1 i = 1#1) (hc2 : isFirst i = 1#1) (hc3 : ¬ isGelu i = 1#1) (hc4 : ¬ k0_cond4 i = 1#1) (hc7 : ¬ k0_cond7 i = 1#1) (hc8 : ¬ k0_cond8 i = 1#1) (x2 : Vec F S128x8192 .f32) (x3 : Vec F S4096x512 .f32)
    (E : Set ℕ) (K : PUnit → sProp 𝕄) :
    iprop(owns (c : Thread nD τ) M2 fullShare x2 ∗ owns (c : Thread nD τ) M3 fullShare x3 ∗ (∃ d, owns (c : Thread nD τ) M9 fullShare d)
        ∗ (iprop(owns (c : Thread nD τ) M2 fullShare x2
              ∗ owns (c : Thread nD τ) M3 fullShare x3
              ∗ owns (c : Thread nD τ) M9 fullShare (k0_pay2 k0_pay1 (VecWindow.window x2 (k0_off1 i) S128x4096.size (k0_off1_inb i hc1)) x3)) -∗ K ⟨⟩))
      ⊢ wp frame (wpE (defs₀ (F := F)) Variants.none c none) E
          (cc0__body i M2 h2 M3 h3 M4 h4 M5 h5 M6 h6 M7 h7 M8 h8 M9 h9 M10 h10 M11 h11 M12 h12) K := by
  unfold owns
  iintro ⟨⟨%f2, %hf2, H2⟩, ⟨%f3, %hf3, H3⟩, ⟨%d9, %f9, -, H9⟩, Hk⟩
  obtain rfl := h2.eq_unread hf2; obtain rfl := h3.eq_unread hf3
  sl_unfold [cc0__body]
  sl_exec (disch := first | sl_exact hc1 | sl_exact hc2 | sl_exact hc3 | sl_exact hc4 | sl_exact hc7 | sl_exact hc8)
  sl_step
  iapply Hk
  isplitl [H2]
  · iexists _; isplitr; · ipureintro; exact h2.read_unread _
    iexact H2
  isplitl [H3]
  · iexists _; isplitr; · ipureintro; exact h3.read_unread _
    iexact H3
  iexists _; isplitr; swap; · iexact H9
  ipureintro
  sl_unfold_words; simp only [writeFull, readFull, readBack, readWindow, Memref.IsWhole.read_unread]; exact congrArg (fun v => k0_pay2 _ v x3) ((readWindow _ _ _).trans (congrArg (fun v => VecWindow.window v _ _ _) (h2.read_unread x2)))

/-- The second point: the accumulator takes the second half of the hidden layer's product. -/
theorem run_acc (hc1 : k0_cond1 i = 1#1) (hc2 : ¬ isFirst i = 1#1) (hc3 : ¬ isGelu i = 1#1) (hc4 : ¬ k0_cond4 i = 1#1) (hc7 : ¬ k0_cond7 i = 1#1) (hc8 : ¬ k0_cond8 i = 1#1) (x2 : Vec F S128x8192 .f32) (x3 : Vec F S4096x512 .f32) (x9 : Vec F S128x512 .f32)
    (E : Set ℕ) (K : PUnit → sProp 𝕄) :
    iprop(owns (c : Thread nD τ) M2 fullShare x2 ∗ owns (c : Thread nD τ) M3 fullShare x3 ∗ owns (c : Thread nD τ) M9 fullShare x9
        ∗ (iprop(owns (c : Thread nD τ) M2 fullShare x2
              ∗ owns (c : Thread nD τ) M3 fullShare x3
              ∗ owns (c : Thread nD τ) M9 fullShare (k0_pay2 x9 (VecWindow.window x2 (k0_off1 i) S128x4096.size (k0_off1_inb i hc1)) x3)) -∗ K ⟨⟩))
      ⊢ wp frame (wpE (defs₀ (F := F)) Variants.none c none) E
          (cc0__body i M2 h2 M3 h3 M4 h4 M5 h5 M6 h6 M7 h7 M8 h8 M9 h9 M10 h10 M11 h11 M12 h12) K := by
  unfold owns
  iintro ⟨⟨%f2, %hf2, H2⟩, ⟨%f3, %hf3, H3⟩, ⟨%f9, %hf9, H9⟩, Hk⟩
  obtain rfl := h2.eq_unread hf2; obtain rfl := h3.eq_unread hf3; obtain rfl := h9.eq_unread hf9
  sl_unfold [cc0__body]
  sl_exec (disch := first | sl_exact hc1 | sl_exact hc2 | sl_exact hc3 | sl_exact hc4 | sl_exact hc7 | sl_exact hc8)
  sl_step
  iapply Hk
  isplitl [H2]
  · iexists _; isplitr; · ipureintro; exact h2.read_unread _
    iexact H2
  isplitl [H3]
  · iexists _; isplitr; · ipureintro; exact h3.read_unread _
    iexact H3
  iexists _; isplitr; swap; · iexact H9
  ipureintro
  sl_unfold_words; simp only [writeFull, readFull, readBack, readWindow, Memref.IsWhole.read_unread]; exact congrArg (fun v => k0_pay2 _ v x3) ((readWindow _ _ _).trans (congrArg (fun v => VecWindow.window v _ _ _) (h2.read_unread x2)))

/-- The third point: the hidden layer's activation, then the first block of the importance and of its codes. -/
theorem run_gelu (hc1 : ¬ k0_cond1 i = 1#1) (hc3 : isGelu i = 1#1) (hc4 : k0_cond4 i = 1#1) (hc5 : k0_cond5 i = 1#1) (hc6 : ¬ k0_cond6 i = 1#1) (hc7 : ¬ k0_cond7 i = 1#1) (hc8 : ¬ k0_cond8 i = 1#1) (x4 : Vec F S1x512 .f32) (x5 : Vec F S512x2048 .f32) (x6 : Vec F S1x2048 .f32) (x9 : Vec F S128x512 .f32) (x11 : Vec F S128x8192 .f32) (x12 : Vec F S128x4096 .i32)
    (E : Set ℕ) (K : PUnit → sProp 𝕄) :
    iprop(owns (c : Thread nD τ) M4 fullShare x4 ∗ owns (c : Thread nD τ) M5 fullShare x5 ∗ owns (c : Thread nD τ) M6 fullShare x6 ∗ (∃ d, owns (c : Thread nD τ) M7 fullShare d) ∗ owns (c : Thread nD τ) M9 fullShare x9 ∗ owns (c : Thread nD τ) M11 fullShare x11 ∗ owns (c : Thread nD τ) M12 fullShare x12
        ∗ (iprop(owns (c : Thread nD τ) M4 fullShare x4
              ∗ owns (c : Thread nD τ) M5 fullShare x5
              ∗ owns (c : Thread nD τ) M6 fullShare x6
              ∗ owns (c : Thread nD τ) M7 fullShare (k0_pay13 (k0_pay3 x9 x4) x5 x6)
              ∗ owns (c : Thread nD τ) M9 fullShare (k0_pay3 x9 x4)
              ∗ owns (c : Thread nD τ) M11 fullShare (VecWindow.put x11 (k0_off2 i) S128x2048.size (k0_pay14 (k0_pay3 x9 x4) x5 x6))
              ∗ owns (c : Thread nD τ) M12 fullShare (VecWindow.put x12 (k0_off3 i) S128x2048.size (k0_pay16 (k0_pay3 x9 x4) x5 x6))) -∗ K ⟨⟩))
      ⊢ wp frame (wpE (defs₀ (F := F)) Variants.none c none) E
          (cc0__body i M2 h2 M3 h3 M4 h4 M5 h5 M6 h6 M7 h7 M8 h8 M9 h9 M10 h10 M11 h11 M12 h12) K := by
  unfold owns
  iintro ⟨⟨%f4, %hf4, H4⟩, ⟨%f5, %hf5, H5⟩, ⟨%f6, %hf6, H6⟩, ⟨%d7, %f7, -, H7⟩, ⟨%f9, %hf9, H9⟩, ⟨%f11, %hf11, H11⟩, ⟨%f12, %hf12, H12⟩, Hk⟩
  obtain rfl := h4.eq_unread hf4; obtain rfl := h5.eq_unread hf5; obtain rfl := h6.eq_unread hf6; obtain rfl := h9.eq_unread hf9; obtain rfl := h11.eq_unread hf11; obtain rfl := h12.eq_unread hf12
  sl_unfold [cc0__body]
  sl_exec (disch := first | sl_exact hc1 | sl_exact hc3 | sl_exact hc4 | sl_exact hc5 | sl_exact hc6 | sl_exact hc7 | sl_exact hc8)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words; simp only [writeFull, readFull, readBack, readWindow, Memref.IsWhole.read_unread]
  isplitl [H9]
  · iexists _; isplitr; swap; · iexact H9
    ipureintro
    sl_unfold_words; simp only [writeFull, readFull, readBack, readWindow, Memref.IsWhole.read_unread]
  isplitl [H11]
  · iexists _; isplitr; swap; · iexact H11
    ipureintro
    rw [View.read_writes_cons_put _ _ _ _ _ rfl, View.writes_nil, h11.read_unread]; refine congrArg (VecWindow.put x11 _ _) ?_; sl_unfold_words; simp only [readFull, readBack, readWindow, Memref.IsWhole.read_unread]
  iexists _; isplitr; swap; · iexact H12
  ipureintro
  rw [View.read_writes_cons_put _ _ _ _ _ rfl, View.writes_nil, h12.read_unread]; refine congrArg (VecWindow.put x12 _ _) ?_; sl_unfold_words; simp only [readFull, readBack, readWindow, Memref.IsWhole.read_unread]

/-- The fourth point: a block of the importance, its codes in the high halves of the packed words. -/
theorem run_high (hc1 : ¬ k0_cond1 i = 1#1) (hc3 : ¬ isGelu i = 1#1) (hc4 : k0_cond4 i = 1#1) (hc5 : k0_cond5 i = 1#1) (hc6 : ¬ k0_cond6 i = 1#1) (hc7 : ¬ k0_cond7 i = 1#1) (hc8 : ¬ k0_cond8 i = 1#1) (x5 : Vec F S512x2048 .f32) (x6 : Vec F S1x2048 .f32) (x9 : Vec F S128x512 .f32) (x11 : Vec F S128x8192 .f32) (x12 : Vec F S128x4096 .i32)
    (E : Set ℕ) (K : PUnit → sProp 𝕄) :
    iprop(owns (c : Thread nD τ) M5 fullShare x5 ∗ owns (c : Thread nD τ) M6 fullShare x6 ∗ (∃ d, owns (c : Thread nD τ) M7 fullShare d) ∗ owns (c : Thread nD τ) M9 fullShare x9 ∗ owns (c : Thread nD τ) M11 fullShare x11 ∗ owns (c : Thread nD τ) M12 fullShare x12
        ∗ (iprop(owns (c : Thread nD τ) M5 fullShare x5
              ∗ owns (c : Thread nD τ) M6 fullShare x6
              ∗ owns (c : Thread nD τ) M7 fullShare (k0_pay13 x9 x5 x6)
              ∗ owns (c : Thread nD τ) M9 fullShare x9
              ∗ owns (c : Thread nD τ) M11 fullShare (VecWindow.put x11 (k0_off2 i) S128x2048.size (k0_pay14 x9 x5 x6))
              ∗ owns (c : Thread nD τ) M12 fullShare (VecWindow.put x12 (k0_off3 i) S128x2048.size (k0_pay16 x9 x5 x6))) -∗ K ⟨⟩))
      ⊢ wp frame (wpE (defs₀ (F := F)) Variants.none c none) E
          (cc0__body i M2 h2 M3 h3 M4 h4 M5 h5 M6 h6 M7 h7 M8 h8 M9 h9 M10 h10 M11 h11 M12 h12) K := by
  unfold owns
  iintro ⟨⟨%f5, %hf5, H5⟩, ⟨%f6, %hf6, H6⟩, ⟨%d7, %f7, -, H7⟩, ⟨%f9, %hf9, H9⟩, ⟨%f11, %hf11, H11⟩, ⟨%f12, %hf12, H12⟩, Hk⟩
  obtain rfl := h5.eq_unread hf5; obtain rfl := h6.eq_unread hf6; obtain rfl := h9.eq_unread hf9; obtain rfl := h11.eq_unread hf11; obtain rfl := h12.eq_unread hf12
  sl_unfold [cc0__body]
  sl_exec (disch := first | sl_exact hc1 | sl_exact hc3 | sl_exact hc4 | sl_exact hc5 | sl_exact hc6 | sl_exact hc7 | sl_exact hc8)
  sl_step
  iapply Hk
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words; simp only [writeFull, readFull, readBack, readWindow, Memref.IsWhole.read_unread]
  isplitl [H9]
  · iexists _; isplitr; · ipureintro; exact h9.read_unread _
    iexact H9
  isplitl [H11]
  · iexists _; isplitr; swap; · iexact H11
    ipureintro
    rw [View.read_writes_cons_put _ _ _ _ _ rfl, View.writes_nil, h11.read_unread]; refine congrArg (VecWindow.put x11 _ _) ?_; sl_unfold_words; simp only [readFull, readBack, readWindow, Memref.IsWhole.read_unread]
  iexists _; isplitr; swap; · iexact H12
  ipureintro
  rw [View.read_writes_cons_put _ _ _ _ _ rfl, View.writes_nil, h12.read_unread]; refine congrArg (VecWindow.put x12 _ _) ?_; sl_unfold_words; simp only [readFull, readBack, readWindow, Memref.IsWhole.read_unread]

/-- The fifth and sixth points: a block of the importance, its codes added into the low halves of the packed words. -/
theorem run_low (hc1 : ¬ k0_cond1 i = 1#1) (hc3 : ¬ isGelu i = 1#1) (hc4 : k0_cond4 i = 1#1) (hc5 : ¬ k0_cond5 i = 1#1) (hc6 : k0_cond6 i = 1#1) (hc7 : ¬ k0_cond7 i = 1#1) (hc8 : ¬ k0_cond8 i = 1#1) (x5 : Vec F S512x2048 .f32) (x6 : Vec F S1x2048 .f32) (x9 : Vec F S128x512 .f32) (x11 : Vec F S128x8192 .f32) (x12 : Vec F S128x4096 .i32)
    (E : Set ℕ) (K : PUnit → sProp 𝕄) :
    iprop(owns (c : Thread nD τ) M5 fullShare x5 ∗ owns (c : Thread nD τ) M6 fullShare x6 ∗ (∃ d, owns (c : Thread nD τ) M7 fullShare d) ∗ owns (c : Thread nD τ) M9 fullShare x9 ∗ owns (c : Thread nD τ) M11 fullShare x11 ∗ owns (c : Thread nD τ) M12 fullShare x12
        ∗ (iprop(owns (c : Thread nD τ) M5 fullShare x5
              ∗ owns (c : Thread nD τ) M6 fullShare x6
              ∗ owns (c : Thread nD τ) M7 fullShare (k0_pay13 x9 x5 x6)
              ∗ owns (c : Thread nD τ) M9 fullShare x9
              ∗ owns (c : Thread nD τ) M11 fullShare (VecWindow.put x11 (k0_off2 i) S128x2048.size (k0_pay14 x9 x5 x6))
              ∗ owns (c : Thread nD τ) M12 fullShare (VecWindow.put x12 (k0_off4 i) S128x2048.size (k0_pay4 (k0_pay15 x9 x5 x6) (VecWindow.window x12 (k0_off4 i) S128x2048.size (k0_off4_inb i hc4 hc6))))) -∗ K ⟨⟩))
      ⊢ wp frame (wpE (defs₀ (F := F)) Variants.none c none) E
          (cc0__body i M2 h2 M3 h3 M4 h4 M5 h5 M6 h6 M7 h7 M8 h8 M9 h9 M10 h10 M11 h11 M12 h12) K := by
  unfold owns
  iintro ⟨⟨%f5, %hf5, H5⟩, ⟨%f6, %hf6, H6⟩, ⟨%d7, %f7, -, H7⟩, ⟨%f9, %hf9, H9⟩, ⟨%f11, %hf11, H11⟩, ⟨%f12, %hf12, H12⟩, Hk⟩
  obtain rfl := h5.eq_unread hf5; obtain rfl := h6.eq_unread hf6; obtain rfl := h9.eq_unread hf9; obtain rfl := h11.eq_unread hf11; obtain rfl := h12.eq_unread hf12
  sl_unfold [cc0__body]
  sl_exec (disch := first | sl_exact hc1 | sl_exact hc3 | sl_exact hc4 | sl_exact hc5 | sl_exact hc6 | sl_exact hc7 | sl_exact hc8)
  sl_step
  iapply Hk
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words; simp only [writeFull, readFull, readBack, readWindow, Memref.IsWhole.read_unread]
  isplitl [H9]
  · iexists _; isplitr; · ipureintro; exact h9.read_unread _
    iexact H9
  isplitl [H11]
  · iexists _; isplitr; swap; · iexact H11
    ipureintro
    rw [View.read_writes_cons_put _ _ _ _ _ rfl, View.writes_nil, h11.read_unread]; refine congrArg (VecWindow.put x11 _ _) ?_; sl_unfold_words; simp only [readFull, readBack, readWindow, Memref.IsWhole.read_unread]
  iexists _; isplitr; swap; · iexact H12
  ipureintro
  rw [View.read_writes_cons_put _ _ _ _ _ rfl, View.writes_nil, readWindow, h12.read_unread]; refine congrArg (fun v => VecWindow.put x12 _ _ (k0_pay4 v _)) ?_; sl_unfold_words; simp only [readFull, Memref.IsWhole.read_unread]

/-- The seventh point: the bisection finds the threshold, and the first block of the result is gated. -/
theorem run_search (hc1 : ¬ k0_cond1 i = 1#1) (hc3 : ¬ isGelu i = 1#1) (hc4 : ¬ k0_cond4 i = 1#1) (hc7 : k0_cond7 i = 1#1) (hc8 : k0_cond8 i = 1#1) (x2 : Vec F S128x8192 .f32) (x11 : Vec F S128x8192 .f32) (x12 : Vec F S128x4096 .i32)
    (E : Set ℕ) (K : PUnit → sProp 𝕄) :
    iprop(owns (c : Thread nD τ) M2 fullShare x2 ∗ (∃ d, owns (c : Thread nD τ) M8 fullShare d) ∗ (∃ d, owns (c : Thread nD τ) M10 fullShare d) ∗ owns (c : Thread nD τ) M11 fullShare x11 ∗ owns (c : Thread nD τ) M12 fullShare x12
        ∗ (iprop(owns (c : Thread nD τ) M2 fullShare x2
              ∗ owns (c : Thread nD τ) M8 fullShare (k0_pay12 (VecWindow.window x11 (k0_off5 i) S128x2048.size (k0_off5_inb i hc8)) (VecWindow.window (k0_pay11 (search x12)) ![0, 0] S128x1.size inb_S128x128_S128x1_0_0) (VecWindow.window x2 (k0_off5 i) S128x2048.size (k0_off5_inb i hc8)))
              ∗ owns (c : Thread nD τ) M10 fullShare (k0_pay11 (search x12))
              ∗ owns (c : Thread nD τ) M11 fullShare x11
              ∗ owns (c : Thread nD τ) M12 fullShare x12) -∗ K ⟨⟩))
      ⊢ wp frame (wpE (defs₀ (F := F)) Variants.none c none) E
          (cc0__body i M2 h2 M3 h3 M4 h4 M5 h5 M6 h6 M7 h7 M8 h8 M9 h9 M10 h10 M11 h11 M12 h12) K := by
  unfold owns
  iintro ⟨⟨%f2, %hf2, H2⟩, ⟨%d8, %f8, -, H8⟩, ⟨%d10, %f10, -, H10⟩, ⟨%f11, %hf11, H11⟩, ⟨%f12, %hf12, H12⟩, Hk⟩
  obtain rfl := h2.eq_unread hf2; obtain rfl := h11.eq_unread hf11; obtain rfl := h12.eq_unread hf12
  sl_unfold [cc0__body]
  sl_exec (disch := first | sl_exact hc1 | sl_exact hc3 | sl_exact hc4 | sl_exact hc7 | sl_exact hc8)
  sl_step
  iapply Hk
  isplitl [H2]
  · iexists _; isplitr; · ipureintro; exact h2.read_unread _
    iexact H2
  isplitl [H8]
  · iexists _; isplitr; swap; · iexact H8
    ipureintro
    rw [View.read_writes_full, readWindow, readWindow, h11.read_unread, h2.read_unread]; refine congrArg (fun v => k0_pay12 _ v _) ?_; sl_unfold_words; unfold View.readCov; rw [readWindow, View.read_writes_full]; exact congrArg (fun v => VecWindow.window (k0_pay11 v) _ _ _) (search_end ..)
  isplitl [H10]
  · iexists _; isplitr; swap; · iexact H10
    ipureintro
    sl_unfold_words; rw [View.read_writes_full]; exact congrArg k0_pay11 (search_end ..)
  isplitl [H11]
  · iexists _; isplitr; · ipureintro; exact h11.read_unread _
    iexact H11
  iexists _; isplitr; · ipureintro; exact h12.read_unread _
  iexact H12

/-- The last points: a block of the result is gated by the threshold found before. -/
theorem run_gate (hc1 : ¬ k0_cond1 i = 1#1) (hc3 : ¬ isGelu i = 1#1) (hc4 : ¬ k0_cond4 i = 1#1) (hc7 : ¬ k0_cond7 i = 1#1) (hc8 : k0_cond8 i = 1#1) (x2 : Vec F S128x8192 .f32) (x10 : Vec F S128x128 .f32) (x11 : Vec F S128x8192 .f32)
    (E : Set ℕ) (K : PUnit → sProp 𝕄) :
    iprop(owns (c : Thread nD τ) M2 fullShare x2 ∗ (∃ d, owns (c : Thread nD τ) M8 fullShare d) ∗ owns (c : Thread nD τ) M10 fullShare x10 ∗ owns (c : Thread nD τ) M11 fullShare x11
        ∗ (iprop(owns (c : Thread nD τ) M2 fullShare x2
              ∗ owns (c : Thread nD τ) M8 fullShare (k0_pay12 (VecWindow.window x11 (k0_off5 i) S128x2048.size (k0_off5_inb i hc8)) (VecWindow.window x10 ![0, 0] S128x1.size inb_S128x128_S128x1_0_0) (VecWindow.window x2 (k0_off5 i) S128x2048.size (k0_off5_inb i hc8)))
              ∗ owns (c : Thread nD τ) M10 fullShare x10
              ∗ owns (c : Thread nD τ) M11 fullShare x11) -∗ K ⟨⟩))
      ⊢ wp frame (wpE (defs₀ (F := F)) Variants.none c none) E
          (cc0__body i M2 h2 M3 h3 M4 h4 M5 h5 M6 h6 M7 h7 M8 h8 M9 h9 M10 h10 M11 h11 M12 h12) K := by
  unfold owns
  iintro ⟨⟨%f2, %hf2, H2⟩, ⟨%d8, %f8, -, H8⟩, ⟨%f10, %hf10, H10⟩, ⟨%f11, %hf11, H11⟩, Hk⟩
  obtain rfl := h2.eq_unread hf2; obtain rfl := h10.eq_unread hf10; obtain rfl := h11.eq_unread hf11
  sl_unfold [cc0__body]
  sl_exec (disch := first | sl_exact hc1 | sl_exact hc3 | sl_exact hc4 | sl_exact hc7 | sl_exact hc8)
  sl_step
  iapply Hk
  isplitl [H2]
  · iexists _; isplitr; · ipureintro; exact h2.read_unread _
    iexact H2
  isplitl [H8]
  · iexists _; isplitr; swap; · iexact H8
    ipureintro
    rw [View.read_writes_full, readWindow, readWindow, readWindow, h11.read_unread, h10.read_unread, h2.read_unread]
  isplitl [H10]
  · iexists _; isplitr; · ipureintro; exact h10.read_unread _
    iexact H10
  iexists _; isplitr; · ipureintro; exact h11.read_unread _
  iexact H11

end Cert.KernelIdeal.Hand
-- ==== Proof.Blocks.lean ====
/-
  What the kernel's buffers hold at each grid point, as functions of the blocks its inputs bring: the hidden layer after each
  half of the product and after the activation, the importance block by block, its packed codes, the threshold, the gated
  blocks; and that each phase of the body carries the description of the scratch buffers from one point to the next.
-/
module

public import proofs.«01_k».proof.Proof.BodyA
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx (ix2 eq_ix2)

variable {F : FTy → Type} [FloatOps F]

/-! ## The grid points and what the body's conditions say there -/

/-- Grid point `k`. -/
abbrev pt (k : ℕ) (h : k < 10) : Fin cfg0.N := ⟨k, h⟩

theorem c1_iff : ∀ t : Fin cfg0.N, k0_cond1 (grid0.coords t) = 1#1 ↔ t.val < 2 :=
  (by decide +kernel : ∀ t : Fin grid0.N, k0_cond1 (grid0.coords t) = 1#1 ↔ t.val < 2)
theorem first_iff : ∀ t : Fin cfg0.N, isFirst (grid0.coords t) = 1#1 ↔ t.val = 0 :=
  (by decide +kernel : ∀ t : Fin grid0.N, isFirst (grid0.coords t) = 1#1 ↔ t.val = 0)
theorem gelu_iff : ∀ t : Fin cfg0.N, isGelu (grid0.coords t) = 1#1 ↔ t.val = 2 :=
  (by decide +kernel : ∀ t : Fin grid0.N, isGelu (grid0.coords t) = 1#1 ↔ t.val = 2)
theorem c4_iff : ∀ t : Fin cfg0.N, k0_cond4 (grid0.coords t) = 1#1 ↔ 2 ≤ t.val ∧ t.val < 6 :=
  (by decide +kernel : ∀ t : Fin grid0.N, k0_cond4 (grid0.coords t) = 1#1 ↔ 2 ≤ t.val ∧ t.val < 6)
theorem c5_iff : ∀ t : Fin cfg0.N, k0_cond5 (grid0.coords t) = 1#1 ↔ t.val < 4 :=
  (by decide +kernel : ∀ t : Fin grid0.N, k0_cond5 (grid0.coords t) = 1#1 ↔ t.val < 4)
theorem c6_iff : ∀ t : Fin cfg0.N, k0_cond6 (grid0.coords t) = 1#1 ↔ 4 ≤ t.val :=
  (by decide +kernel : ∀ t : Fin grid0.N, k0_cond6 (grid0.coords t) = 1#1 ↔ 4 ≤ t.val)
theorem c7_iff : ∀ t : Fin cfg0.N, k0_cond7 (grid0.coords t) = 1#1 ↔ t.val = 6 :=
  (by decide +kernel : ∀ t : Fin grid0.N, k0_cond7 (grid0.coords t) = 1#1 ↔ t.val = 6)
theorem c8_iff : ∀ t : Fin cfg0.N, k0_cond8 (grid0.coords t) = 1#1 ↔ 6 ≤ t.val :=
  (by decide +kernel : ∀ t : Fin grid0.N, k0_cond8 (grid0.coords t) = 1#1 ↔ 6 ≤ t.val)

/-! ## The offsets of the blocks inside the scratch buffers -/

theorem off2_eq : ∀ t : Fin cfg0.N, 2 ≤ t.val ∧ t.val < 6 → k0_off2 (grid0.coords t) = ![0, 2048 * (t.val - 2)] :=
  (by decide +kernel : ∀ t : Fin grid0.N, 2 ≤ t.val ∧ t.val < 6 → k0_off2 (grid0.coords t) = ![0, 2048 * (t.val - 2)])
theorem off3_eq : ∀ t : Fin cfg0.N, 2 ≤ t.val ∧ t.val < 4 → k0_off3 (grid0.coords t) = ![0, 2048 * (t.val - 2)] :=
  (by decide +kernel : ∀ t : Fin grid0.N, 2 ≤ t.val ∧ t.val < 4 → k0_off3 (grid0.coords t) = ![0, 2048 * (t.val - 2)])
theorem off4_eq : ∀ t : Fin cfg0.N, 4 ≤ t.val ∧ t.val < 6 → k0_off4 (grid0.coords t) = ![0, 2048 * (t.val - 4)] :=
  (by decide +kernel : ∀ t : Fin grid0.N, 4 ≤ t.val ∧ t.val < 6 → k0_off4 (grid0.coords t) = ![0, 2048 * (t.val - 4)])
theorem off5_eq : ∀ t : Fin cfg0.N, 6 ≤ t.val → k0_off5 (grid0.coords t) = ![0, 2048 * (t.val - 6)] :=
  (by decide +kernel : ∀ t : Fin grid0.N, 6 ≤ t.val → k0_off5 (grid0.coords t) = ![0, 2048 * (t.val - 6)])
theorem off1_eq : ∀ t : Fin cfg0.N, t.val < 2 → k0_off1 (grid0.coords t) = ![0, 4096 * t.val] :=
  (by decide +kernel : ∀ t : Fin grid0.N, t.val < 2 → k0_off1 (grid0.coords t) = ![0, 4096 * t.val])

theorem inb8 {k : ℕ} (h : k < 4) : ∀ a, (![0, 2048 * k] : Fin 2 → ℕ) a + S128x2048.size a ≤ S128x8192.size a :=
  Fin.forall_fin_two.mpr ⟨by show 0 + 128 ≤ 128; omega, by show 2048 * k + 2048 ≤ 8192; omega⟩
theorem inb4 {k : ℕ} (h : k < 2) : ∀ a, (![0, 2048 * k] : Fin 2 → ℕ) a + S128x2048.size a ≤ S128x4096.size a :=
  Fin.forall_fin_two.mpr ⟨by show 0 + 128 ≤ 128; omega, by show 2048 * k + 2048 ≤ 4096; omega⟩
theorem inbH {k : ℕ} (h : k < 2) : ∀ a, (![0, 4096 * k] : Fin 2 → ℕ) a + S128x4096.size a ≤ S128x8192.size a :=
  Fin.forall_fin_two.mpr ⟨by show 0 + 128 ≤ 128; omega, by show 4096 * k + 4096 ≤ 8192; omega⟩

/-- Block `k` of four, 2048 columns each. -/
abbrev blk8 {α : Type} (x : S128x8192.Idx → α) (k : ℕ) (h : k < 4) : S128x2048.Idx → α :=
  VecWindow.window x ![0, 2048 * k] S128x2048.size (inb8 h)
/-- Block `k` of two, 2048 columns each. -/
abbrev blk4 {α : Type} (x : S128x4096.Idx → α) (k : ℕ) (h : k < 2) : S128x2048.Idx → α :=
  VecWindow.window x ![0, 2048 * k] S128x2048.size (inb4 h)
/-- Half `k` of the 8192 columns. -/
abbrev half {α : Type} (x : S128x8192.Idx → α) (k : ℕ) (h : k < 2) : S128x4096.Idx → α :=
  VecWindow.window x ![0, 4096 * k] S128x4096.size (inbH h)

/-- Windows at equal offsets are equal. -/
theorem window_congr {α : Type} {s : Shape} (x : s.Idx → α) {off off' : Fin s.rank → ℕ} (size : Fin s.rank → ℕ)
    (inb : ∀ a, off a + size a ≤ s.size a) (h : off = off') (inb' : ∀ a, off' a + size a ≤ s.size a) :
    VecWindow.window x off size inb = VecWindow.window x off' size inb' := by
  subst h; rfl

/-- After a store of block `k`, block `k` is what was stored. -/
theorem blk8_put_same {α : Type} (x : S128x8192.Idx → α) (w : S128x2048.Idx → α) (k : ℕ) (h : k < 4) {off : Fin 2 → ℕ}
    (ho : off = ![0, 2048 * k]) : blk8 (VecWindow.put (s := S128x8192) x off S128x2048.size w) k h = w := by
  subst ho; exact VecWindow.window_put_same (s := S128x8192) x _ _ _ w
/-- After a store of block `k`, another block is what it was. -/
theorem blk8_put_other {α : Type} (x : S128x8192.Idx → α) (w : S128x2048.Idx → α) (k j : ℕ) (h : j < 4) (hne : j ≠ k) {off : Fin 2 → ℕ}
    (ho : off = ![0, 2048 * k]) : blk8 (VecWindow.put (s := S128x8192) x off S128x2048.size w) j h = blk8 x j h := by
  subst ho
  exact VecWindow.window_put_of_disjoint (s := S128x8192) x _ _ _ _ _ w 1
    (by show 2048 * j + 2048 ≤ 2048 * k ∨ 2048 * k + 2048 ≤ 2048 * j; omega)
theorem blk4_put_same {α : Type} (x : S128x4096.Idx → α) (w : S128x2048.Idx → α) (k : ℕ) (h : k < 2) {off : Fin 2 → ℕ}
    (ho : off = ![0, 2048 * k]) : blk4 (VecWindow.put (s := S128x4096) x off S128x2048.size w) k h = w := by
  subst ho; exact VecWindow.window_put_same (s := S128x4096) x _ _ _ w
theorem blk4_put_other {α : Type} (x : S128x4096.Idx → α) (w : S128x2048.Idx → α) (k j : ℕ) (h : j < 2) (hne : j ≠ k) {off : Fin 2 → ℕ}
    (ho : off = ![0, 2048 * k]) : blk4 (VecWindow.put (s := S128x4096) x off S128x2048.size w) j h = blk4 x j h := by
  subst ho
  exact VecWindow.window_put_of_disjoint (s := S128x4096) x _ _ _ _ _ w 1
    (by show 2048 * j + 2048 ≤ 2048 * k ∨ 2048 * k + 2048 ≤ 2048 * j; omega)

/-- Two blocks of 2048 columns side by side. -/
def glue {α : Type} (u v : S128x2048.Idx → α) : S128x4096.Idx → α := fun y =>
  if h : (y 1).val < 2048 then u (ix2 (n0 := 128) (n1 := 2048) (y 0) ⟨(y 1).val, h⟩)
  else v (ix2 (n0 := 128) (n1 := 2048) (y 0) ⟨(y 1).val - 2048, by have : (y 1).val < 4096 := (y 1).isLt; omega⟩)

/-- An array of 4096 columns is its two blocks side by side. -/
theorem eq_glue {α : Type} (x : S128x4096.Idx → α) : x = glue (blk4 x 0 (by omega)) (blk4 x 1 (by omega)) := by
  funext y
  unfold glue
  by_cases h : (y 1).val < 2048
  · rw [dif_pos h]
    refine congrArg x (funext fun a => Fin.ext ?_)
    match a with
    | ⟨0, _⟩ => exact (show (y 0).val = 0 + 1 * (y 0).val by omega)
    | ⟨1, _⟩ => exact (show (y 1).val = 2048 * 0 + 1 * (y 1).val by omega)
  · rw [dif_neg h]
    refine congrArg x (funext fun a => Fin.ext ?_)
    match a with
    | ⟨0, _⟩ => exact (show (y 0).val = 0 + 1 * (y 0).val by omega)
    | ⟨1, _⟩ => exact (show (y 1).val = 2048 * 1 + 1 * ((y 1).val - 2048) by omega)

/-! ## What the buffers hold -/

variable (m : (ℓ : Loc nD τ sig) → Buf (Elt F) ℓ) (c : Dev nD)

/-- The whole first input, as the kernel's first window shows it at point `k`. -/
abbrev inX (k : ℕ) (h : k < 10) : Vec F S128x8192 .f32 := iblk m c 0 (pt k h)
abbrev inW1 (k : ℕ) (h : k < 10) : Vec F S4096x512 .f32 := iblk m c 1 (pt k h)
abbrev inB1 (k : ℕ) (h : k < 10) : Vec F S1x512 .f32 := iblk m c 2 (pt k h)
abbrev inW2 (k : ℕ) (h : k < 10) : Vec F S512x2048 .f32 := iblk m c 3 (pt k h)
abbrev inB2 (k : ℕ) (h : k < 10) : Vec F S1x2048 .f32 := iblk m c 4 (pt k h)

/-- The hidden layer's product over the first half of the columns. -/
def hid1 : Vec F S128x512 .f32 := k0_pay2 k0_pay1 (half (inX m c 0 (by omega)) 0 (by omega)) (inW1 m c 0 (by omega))
/-- The hidden layer's product over all columns. -/
def hid2 : Vec F S128x512 .f32 := k0_pay2 (hid1 m c) (half (inX m c 1 (by omega)) 1 (by omega)) (inW1 m c 1 (by omega))
/-- The hidden layer. -/
def act : Vec F S128x512 .f32 := k0_pay3 (hid2 m c) (inB1 m c 2 (by omega))
/-- Block `k` of the importance, as the result's window takes it. -/
def impOut (k : ℕ) (h : k < 4) : Vec F S128x2048 .f32 := k0_pay13 (act m c) (inW2 m c (k + 2) (by omega)) (inB2 m c (k + 2) (by omega))
/-- Block `k` of the importance, as the scratch buffer takes it. -/
def impBlk (k : ℕ) (h : k < 4) : Vec F S128x2048 .f32 := k0_pay14 (act m c) (inW2 m c (k + 2) (by omega)) (inB2 m c (k + 2) (by omega))
/-- Block `k` of the packed words while only its high halves are filled. -/
def qHigh (k : ℕ) (h : k < 2) : Vec F S128x2048 .i32 := k0_pay16 (act m c) (inW2 m c (k + 2) (by omega)) (inB2 m c (k + 2) (by omega))
/-- Block `k` of the packed words. -/
def qFull (k : ℕ) (h : k < 2) : Vec F S128x2048 .i32 :=
  k0_pay4 (k0_pay15 (act m c) (inW2 m c (k + 4) (by omega)) (inB2 m c (k + 4) (by omega))) (qHigh m c k h)
/-- The packed words. -/
def words : Vec F S128x4096 .i32 := glue (qFull m c 0 (by omega)) (qFull m c 1 (by omega))
/-- The threshold, spread over its buffer. -/
def thrB : Vec F S128x128 .f32 := k0_pay11 (search (F := F) (words m c))
/-- Block `k` of the gated result. -/
def gateBlk (k : ℕ) (h : k < 4) : Vec F S128x2048 .f32 :=
  k0_pay12 (impBlk m c k h) (VecWindow.window (thrB m c) ![0, 0] S128x1.size inb_S128x128_S128x1_0_0) (blk8 (inX m c (k + 6) (by omega)) k h)

/-- What the four scratch buffers hold before grid point `n`. -/
structure Inv (n : ℕ) (h : Vec F S128x512 .f32) (thr : Vec F S128x128 .f32) (imp : Vec F S128x8192 .f32) (q : Vec F S128x4096 .i32) : Prop where
  h1 : n = 1 → h = hid1 m c
  h2 : n = 2 → h = hid2 m c
  h3 : 3 ≤ n → h = act m c
  him : ∀ k (hk : k < 4), k + 2 < n → blk8 imp k hk = impBlk m c k hk
  hq : ∀ k (hk : k < 2), k + 2 < n → blk4 q k hk = if n ≤ k + 4 then qHigh m c k hk else qFull m c k hk
  ht : 7 ≤ n → thr = thrB m c

variable {m c}

/-- Before the first point nothing is known of them. -/
theorem Inv.zero (h : Vec F S128x512 .f32) (thr : Vec F S128x128 .f32) (imp : Vec F S128x8192 .f32) (q : Vec F S128x4096 .i32) :
    Inv m c 0 h thr imp q :=
  ⟨by omega, by omega, by omega, fun _ _ h => absurd h (by omega), fun _ _ h => absurd h (by omega), by omega⟩

variable {n : ℕ} {h : Vec F S128x512 .f32} {thr : Vec F S128x128 .f32} {imp : Vec F S128x8192 .f32} {q : Vec F S128x4096 .i32}

/-- The packed words before the seventh point. -/
theorem Inv.q_eq (I : Inv m c 6 h thr imp q) : q = words m c := by
  rw [eq_glue q, I.hq 0 (by omega) (by omega), I.hq 1 (by omega) (by omega), if_neg (by omega), if_neg (by omega)]; rfl

theorem Inv.first (I : Inv m c 0 h thr imp q) : Inv m c 1 (hid1 m c) thr imp q :=
  ⟨fun _ => rfl, by omega, by omega, fun _ _ h => absurd h (by omega), fun _ _ h => absurd h (by omega), by omega⟩

theorem Inv.second (I : Inv m c 1 h thr imp q) : Inv m c 2 (hid2 m c) thr imp q :=
  ⟨by omega, fun _ => rfl, by omega, fun _ _ h => absurd h (by omega), fun _ _ h => absurd h (by omega), by omega⟩

/-- A block of the importance is stored, with its codes in the high halves. -/
theorem Inv.high (I : Inv m c (n + 2) h thr imp q) (hn : n < 2) {off off' : Fin 2 → ℕ} (ho : off = ![0, 2048 * n]) (ho' : off' = ![0, 2048 * n]) :
    Inv m c (n + 2 + 1) (act m c) thr (VecWindow.put (s := S128x8192) imp off S128x2048.size (impBlk m c n (by omega)))
      (VecWindow.put (s := S128x4096) q off' S128x2048.size (qHigh m c n (by omega))) := by
  refine ⟨by omega, by omega, fun _ => rfl, fun k hk hlt => ?_, fun k hk hlt => ?_, by omega⟩
  · by_cases e : k = n
    · subst e; exact blk8_put_same _ _ _ _ ho
    · rw [blk8_put_other _ _ n k hk e ho]; exact I.him k hk (by omega)
  · rw [if_pos (by omega)]
    by_cases e : k = n
    · subst e; exact blk4_put_same _ _ _ _ ho'
    · rw [blk4_put_other _ _ n k hk e ho', I.hq k hk (by omega), if_pos (by omega)]

/-- A block of the importance is stored, with its codes added into the low halves. -/
theorem Inv.low (I : Inv m c (n + 4) h thr imp q) (hn : n < 2) {off off' : Fin 2 → ℕ} (ho : off = ![0, 2048 * (n + 2)]) (ho' : off' = ![0, 2048 * n]) :
    Inv m c (n + 4 + 1) (act m c) thr (VecWindow.put (s := S128x8192) imp off S128x2048.size (impBlk m c (n + 2) (by omega)))
      (VecWindow.put (s := S128x4096) q off' S128x2048.size (qFull m c n hn)) := by
  refine ⟨by omega, by omega, fun _ => rfl, fun k hk hlt => ?_, fun k hk hlt => ?_, by omega⟩
  · by_cases e : k = n + 2
    · subst e; exact blk8_put_same _ _ _ _ ho
    · rw [blk8_put_other _ _ (n + 2) k hk e ho]; exact I.him k hk (by omega)
  · by_cases e : k = n
    · subst e; rw [if_neg (by omega)]; exact blk4_put_same _ _ _ _ ho'
    · rw [blk4_put_other _ _ n k hk e ho', I.hq k hk (by omega)]
      by_cases g : n + 4 ≤ k + 4
      · rw [if_pos g, if_pos (by omega)]
      · rw [if_neg g, if_neg (by omega)]

/-- The threshold is found. -/
theorem Inv.found (I : Inv m c 6 h thr imp q) : Inv m c 7 h (thrB m c) imp q :=
  ⟨by omega, by omega, fun _ => I.h3 (by omega), fun k hk _ => I.him k hk (by omega),
    fun k hk _ => by rw [I.hq k hk (by omega), if_neg (by omega), if_neg (by omega)], fun _ => rfl⟩

/-- The last points change nothing. -/
theorem Inv.keep (I : Inv m c n h thr imp q) (hn : 7 ≤ n) : Inv m c (n + 1) h thr imp q :=
  ⟨by omega, by omega, fun _ => I.h3 (by omega), fun k hk _ => I.him k hk (by omega),
    fun k hk _ => by rw [I.hq k hk (by omega), if_neg (by omega), if_neg (by omega)], fun _ => I.ht hn⟩

end Cert.KernelIdeal.Hand
-- ==== Proof.Steps.lean ====
/-
  One grid point's effect on the buffers, as the triples of the phases leave it: the scratch buffers go from what `Inv` says before
  the point to what it says after it, and the results' windows take their blocks.
-/
module

public import proofs.«01_k».proof.Proof.Blocks

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (c : Dev nD)
variable {h : Vec F S128x512 .f32} {thr : Vec F S128x128 .f32} {imp : Vec F S128x8192 .f32} {q : Vec F S128x4096 .i32}

/-- The first point: the hidden product over the first half of the columns. -/
theorem inv_first (t : Fin cfg0.N) (ht : t.val = 0) (I : Inv m c t.val h thr imp q)
    (inb : ∀ a, k0_off1 (grid0.coords t) a + S128x4096.size a ≤ S128x8192.size a) :
    Inv m c (t.val + 1) (k0_pay2 k0_pay1 (VecWindow.window (s := S128x8192) (iblk m c 0 t) (k0_off1 (grid0.coords t)) S128x4096.size inb) (iblk m c 1 t))
      thr imp q := by
  have hp : (0 : ℕ) < 10 := by decide
  obtain rfl : t = pt 0 hp := Fin.ext ht
  have ho : k0_off1 (grid0.coords (pt 0 hp)) = ![0, 4096 * 0] := off1_eq _ Nat.two_pos
  rw [window_congr _ _ inb ho (inbH (k := 0) Nat.two_pos)]
  exact I.first

/-- The second point: the hidden product over all columns. -/
theorem inv_acc (t : Fin cfg0.N) (ht : t.val = 1) (I : Inv m c t.val h thr imp q)
    (inb : ∀ a, k0_off1 (grid0.coords t) a + S128x4096.size a ≤ S128x8192.size a) :
    Inv m c (t.val + 1) (k0_pay2 h (VecWindow.window (s := S128x8192) (iblk m c 0 t) (k0_off1 (grid0.coords t)) S128x4096.size inb) (iblk m c 1 t))
      thr imp q := by
  obtain rfl := I.h1 ht
  have hp : (1 : ℕ) < 10 := by decide
  obtain rfl : t = pt 1 hp := Fin.ext ht
  have ho : k0_off1 (grid0.coords (pt 1 hp)) = ![0, 4096 * 1] := off1_eq _ Nat.one_lt_two
  rw [window_congr _ _ inb ho (inbH (k := 1) Nat.one_lt_two)]
  exact I.second

/-- The third point: the hidden layer, and the first block of the importance with its codes. -/
theorem inv_gelu (t : Fin cfg0.N) (ht : t.val = 2) (I : Inv m c t.val h thr imp q) :
    Inv m c (t.val + 1) (k0_pay3 h (iblk m c 2 t)) thr
      (VecWindow.put (s := S128x8192) imp (k0_off2 (grid0.coords t)) S128x2048.size (k0_pay14 (k0_pay3 h (iblk m c 2 t)) (iblk m c 3 t) (iblk m c 4 t)))
      (VecWindow.put (s := S128x4096) q (k0_off3 (grid0.coords t)) S128x2048.size (k0_pay16 (k0_pay3 h (iblk m c 2 t)) (iblk m c 3 t) (iblk m c 4 t))) := by
  obtain rfl := I.h2 ht
  have hp : 0 + 2 < 10 := by decide
  obtain rfl : t = pt (0 + 2) hp := Fin.ext ht
  exact Inv.high (n := 0) I Nat.two_pos (off2_eq (pt (0 + 2) hp) ⟨(by decide : 2 ≤ 0 + 2), (by decide : 0 + 2 < 6)⟩) (off3_eq (pt (0 + 2) hp) ⟨(by decide : 2 ≤ 0 + 2), (by decide : 0 + 2 < 4)⟩)

/-- The block of the importance the third point writes out. -/
theorem out_gelu (t : Fin cfg0.N) (ht : t.val = 2) (I : Inv m c t.val h thr imp q) :
    k0_pay13 (k0_pay3 h (iblk m c 2 t)) (iblk m c 3 t) (iblk m c 4 t) = impOut m c (min (t.val - 2) 3) (by omega) := by
  obtain rfl := I.h2 ht
  have hp : 0 + 2 < 10 := by decide
  obtain rfl : t = pt (0 + 2) hp := Fin.ext ht
  rfl

/-- The fourth point: the second block of the importance with its codes. -/
theorem inv_high (t : Fin cfg0.N) (ht : t.val = 3) (I : Inv m c t.val h thr imp q) :
    Inv m c (t.val + 1) h thr
      (VecWindow.put (s := S128x8192) imp (k0_off2 (grid0.coords t)) S128x2048.size (k0_pay14 h (iblk m c 3 t) (iblk m c 4 t)))
      (VecWindow.put (s := S128x4096) q (k0_off3 (grid0.coords t)) S128x2048.size (k0_pay16 h (iblk m c 3 t) (iblk m c 4 t))) := by
  obtain rfl := I.h3 (by omega)
  have hp : 1 + 2 < 10 := by decide
  obtain rfl : t = pt (1 + 2) hp := Fin.ext ht
  exact Inv.high (n := 1) I Nat.one_lt_two (off2_eq (pt (1 + 2) hp) ⟨(by decide : 2 ≤ 1 + 2), (by decide : 1 + 2 < 6)⟩) (off3_eq (pt (1 + 2) hp) ⟨(by decide : 2 ≤ 1 + 2), (by decide : 1 + 2 < 4)⟩)

/-- From the fourth point on the block of the importance written out is computed from the hidden layer. -/
theorem out_late (t : Fin cfg0.N) (ht : 3 ≤ t.val ∧ t.val < 6) (I : Inv m c t.val h thr imp q) :
    k0_pay13 h (iblk m c 3 t) (iblk m c 4 t) = impOut m c (min (t.val - 2) 3) (by omega) := by
  obtain rfl := I.h3 (by omega)
  obtain ⟨k, hk⟩ : ∃ k, t.val = k + 2 := ⟨t.val - 2, by omega⟩
  have h4 : k < 4 := by omega
  have hp : k + 2 < 10 := by omega
  obtain rfl : t = pt (k + 2) hp := Fin.ext hk
  have e : min ((pt (k + 2) hp).val - 2) 3 = k := by show min (k + 2 - 2) 3 = k; omega
  have hx : ∀ (j : ℕ) (hj : j < 4), j = k → k0_pay13 (act m c) (iblk m c 3 (pt (k + 2) hp)) (iblk m c 4 (pt (k + 2) hp)) = impOut m c j hj := by
    intro j hj e; subst e; rfl
  exact hx _ _ e

/-- The fifth and sixth points: a block of the importance, its codes added into the low halves. -/
theorem inv_low (t : Fin cfg0.N) (ht : 4 ≤ t.val ∧ t.val < 6) (I : Inv m c t.val h thr imp q)
    (inb : ∀ a, k0_off4 (grid0.coords t) a + S128x2048.size a ≤ S128x4096.size a) :
    Inv m c (t.val + 1) h thr
      (VecWindow.put (s := S128x8192) imp (k0_off2 (grid0.coords t)) S128x2048.size (k0_pay14 h (iblk m c 3 t) (iblk m c 4 t)))
      (VecWindow.put (s := S128x4096) q (k0_off4 (grid0.coords t)) S128x2048.size (k0_pay4 (k0_pay15 h (iblk m c 3 t) (iblk m c 4 t))
        (VecWindow.window (s := S128x4096) q (k0_off4 (grid0.coords t)) S128x2048.size inb))) := by
  obtain rfl := I.h3 (by omega)
  obtain ⟨k, hk⟩ : ∃ k, t.val = k + 4 := ⟨t.val - 4, by omega⟩
  have h2 : k < 2 := by omega
  have hp : k + 4 < 10 := by omega
  obtain rfl : t = pt (k + 4) hp := Fin.ext hk
  have o4 : k0_off4 (grid0.coords (pt (k + 4) hp)) = ![0, 2048 * k] := (off4_eq _ ht).trans (by show ![0, 2048 * (k + 4 - 4)] = _; rw [Nat.add_sub_cancel])
  have o2 : k0_off2 (grid0.coords (pt (k + 4) hp)) = ![0, 2048 * (k + 2)] :=
    (off2_eq _ ⟨by omega, by omega⟩).trans (by show ![0, 2048 * (k + 4 - 2)] = _; rw [show k + 4 - 2 = k + 2 by omega])
  have J : Inv m c (k + 4) (act m c) thr imp q := I
  have e : VecWindow.window q ![0, 2048 * k] S128x2048.size (inb4 h2) = qHigh m c k h2 := (J.hq k h2 (by omega)).trans (if_pos (Nat.le_refl _))
  rw [window_congr _ _ inb o4 (inb4 h2), e]
  exact J.low h2 o2 o4

/-- The seventh point: the threshold. -/
theorem inv_search (t : Fin cfg0.N) (ht : t.val = 6) (I : Inv m c t.val h thr imp q) :
    Inv m c (t.val + 1) h (k0_pay11 (search (F := F) q)) imp q := by
  have hp : (6 : ℕ) < 10 := by decide
  obtain rfl : t = pt 6 hp := Fin.ext ht
  have J : Inv m c 6 h thr imp q := I
  have e := J.q_eq
  have K := J.found
  rw [thrB, ← e] at K
  exact K

/-- The gated block written out, once the threshold stands. -/
theorem out_of_thr (t : Fin cfg0.N) (ht : 6 ≤ t.val) (I : Inv m c t.val h thr imp q)
    (inb : ∀ a, k0_off5 (grid0.coords t) a + S128x2048.size a ≤ S128x8192.size a) (th : Vec F S128x128 .f32) (hth : th = thrB m c) :
    k0_pay12 (VecWindow.window (s := S128x8192) imp (k0_off5 (grid0.coords t)) S128x2048.size inb)
        (VecWindow.window th ![0, 0] S128x1.size inb_S128x128_S128x1_0_0)
        (VecWindow.window (s := S128x8192) (iblk m c 0 t) (k0_off5 (grid0.coords t)) S128x2048.size inb)
      = gateBlk m c (min (t.val - 6) 3) (by omega) := by
  subst hth
  obtain ⟨k, hk⟩ : ∃ k, t.val = k + 6 := ⟨t.val - 6, by omega⟩
  have hp : k + 6 < 10 := by have := t.isLt; have : cfg0.N = 10 := rfl; omega
  have h4 : k < 4 := by omega
  obtain rfl : t = pt (k + 6) hp := Fin.ext hk
  have o5 : k0_off5 (grid0.coords (pt (k + 6) hp)) = ![0, 2048 * k] := (off5_eq _ ht).trans (by show ![0, 2048 * (k + 6 - 6)] = _; rw [Nat.add_sub_cancel])
  have J : Inv m c (k + 6) h thr imp q := I
  have e1 : VecWindow.window imp ![0, 2048 * k] S128x2048.size (inb8 h4) = impBlk m c k h4 := J.him k h4 (by omega)
  rw [window_congr imp _ inb o5 (inb8 h4), e1, window_congr (iblk m c 0 (pt (k + 6) hp)) _ inb o5 (inb8 h4)]
  have e : min ((pt (k + 6) hp).val - 6) 3 = k := by show min (k + 6 - 6) 3 = k; omega
  have hx : ∀ (j : ℕ) (hj : j < 4), j = k → k0_pay12 (impBlk m c k h4) (VecWindow.window (thrB m c) ![0, 0] S128x1.size inb_S128x128_S128x1_0_0)
      (blk8 (iblk m c 0 (pt (k + 6) hp)) k h4) = gateBlk m c j hj := by
    intro j hj e; subst e; rfl
  exact hx _ _ e

theorem out_search (t : Fin cfg0.N) (ht : t.val = 6) (I : Inv m c t.val h thr imp q)
    (inb : ∀ a, k0_off5 (grid0.coords t) a + S128x2048.size a ≤ S128x8192.size a) :
    k0_pay12 (VecWindow.window (s := S128x8192) imp (k0_off5 (grid0.coords t)) S128x2048.size inb)
        (VecWindow.window (k0_pay11 (search (F := F) q)) ![0, 0] S128x1.size inb_S128x128_S128x1_0_0)
        (VecWindow.window (s := S128x8192) (iblk m c 0 t) (k0_off5 (grid0.coords t)) S128x2048.size inb)
      = gateBlk m c (min (t.val - 6) 3) (by omega) :=
  out_of_thr m c t (by omega) I inb _ (by rw [thrB, ← Inv.q_eq (show Inv m c 6 h thr imp q from ht ▸ I)])

theorem out_gate (t : Fin cfg0.N) (ht : 7 ≤ t.val) (I : Inv m c t.val h thr imp q)
    (inb : ∀ a, k0_off5 (grid0.coords t) a + S128x2048.size a ≤ S128x8192.size a) :
    k0_pay12 (VecWindow.window (s := S128x8192) imp (k0_off5 (grid0.coords t)) S128x2048.size inb)
        (VecWindow.window thr ![0, 0] S128x1.size inb_S128x128_S128x1_0_0)
        (VecWindow.window (s := S128x8192) (iblk m c 0 t) (k0_off5 (grid0.coords t)) S128x2048.size inb)
      = gateBlk m c (min (t.val - 6) 3) (by omega) :=
  out_of_thr m c t (by omega) I inb _ (I.ht ht)

end Cert.KernelIdeal.Hand
-- ==== Proof.Run.lean ====
/-
  The pipeline's run: its proof data, the body's obligation at each of the ten grid points from the triples of the phases, the run
  of @main, and the frame it leaves.
-/
module

public import proofs.«01_k».proof.Proof.Steps
public import Idealize.ShloMosaic.Lib.Pipeline.Frame
public import Idealize.ShloMosaic.Lib.Pipeline.FrameBody
public import Idealize.ShloMosaic.Lib.Pipeline.TableIdle
public import Idealize.ShloMosaic.PureOps.BitExact

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is held between grid points: the four scratch buffers at contents `Inv` describes, and the generator's register. -/
def Φs (c : Dev nD) (n : ℕ) : sProp 𝕄 :=
  iprop(∃ h thr imp q, owns (c : Thread nD τ) (Memref.whole cc0_scratch0) fullShare h ∗ owns (c : Thread nD τ) (Memref.whole cc0_scratch1) fullShare thr
    ∗ owns (c : Thread nD τ) (Memref.whole cc0_scratch2) fullShare imp ∗ owns (c : Thread nD τ) (Memref.whole cc0_scratch3) fullShare q
    ∗ ⌜Inv m c n h thr imp q⌝ ∗ ∃ r, prngReg c r)

/-- The pipeline's proof data: each input's buffer keeps its block; the importance's buffer holds the block last computed, and so
    does the gated result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => impOut m c (min (t.val - 2) 3) (by omega)
    | ⟨6, _⟩ => gateBlk m c (min (t.val - 6) 3) (by omega)
  Φ t := Φs m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = impOut m c (min (t.val - 2) 3) (by omega) := by dsimp only [dats]
theorem after0_6 (c : Dev nD) (t : Fin cfg0.N) : (dats m 0 c).after 6 t = gateBlk m c (min (t.val - 6) 3) (by omega) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At which points the two results' windows are idle and at which they are written back. -/
theorem idle5 : ∀ t : Fin cfg0.N, cfg0.idle 5 (cfg0.grid.coords t) = !decide (2 ≤ t.val ∧ t.val < 6) :=
  (by decide +kernel : ∀ t : Fin grid0.N, idle0 5 (grid0.coords t) = !decide (2 ≤ t.val ∧ t.val < 6))
theorem idle6 : ∀ t : Fin cfg0.N, cfg0.idle 6 (cfg0.grid.coords t) = !decide (6 ≤ t.val) :=
  (by decide +kernel : ∀ t : Fin grid0.N, idle0 6 (grid0.coords t) = !decide (6 ≤ t.val))
theorem flush5 : ∀ t : Fin cfg0.N, (cfg0.win 5).flush t = decide (t.val = 2 ∨ t.val = 3 ∨ t.val = 4 ∨ t.val = 9) :=
  (by decide +kernel : ∀ t : Fin grid0.N, win0_5.flush t = decide (t.val = 2 ∨ t.val = 3 ∨ t.val = 4 ∨ t.val = 9))
theorem flush6 : ∀ t : Fin cfg0.N, (cfg0.win 6).flush t = decide (6 ≤ t.val) :=
  (by decide +kernel : ∀ t : Fin grid0.N, win0_6.flush t = decide (6 ≤ t.val))

/-- From the sixth point on the importance's buffer holds its last block. -/
theorem before5_late (c : Dev nD) (t : Fin cfg0.N) (ht : t.val = 9) (d) : (dats m 0 c).before 5 t d = (dats m 0 c).after 5 t := by
  have hrun := (dats m 0 c).before_idle_run 5 (fun t => (cfg0.win 5).fetch_out rfl t) d 3 t (by omega) (fun j h1 h2 => by
    rw [idle5, flush5]; exact ⟨by simp; omega, by simp; omega⟩)
  rw [hrun, (dats m 0 c).before_of_pos 5 _ (by first | (simp only; omega) | simp) ((cfg0.win 5).fetch_out rfl _) d]
  rw [if_neg (by rw [flush5]; simp; omega)]
  unfold Dat.left
  rw [idle5]
  simp only [show (!decide (2 ≤ t.val - 3 - 1 ∧ t.val - 3 - 1 < 6)) = false by simp; omega]
  show (dats m 0 c).kept 5 _ d = _
  unfold Dat.kept
  rw [Pipeline.fill_of_clip_none (cfg := cfg0) 5 _ (fun _ => rfl) d ((dats m 0 c).after 5 _), Window.fill_cut, after0_5, after0_5]
  congr 1; simp only; omega

/-- The body's obligation at one grid point. -/
def Obl (c : Dev nD) (t : Fin cfg0.N) : Prop :=
  iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare ((dats m 0 c).before w t d)))
    ⊢ wp frame (wpE (defs₀ (F := F)) Variants.none c none) Set.univ (defs₀ .tc cfg0.body (cfg0.bodyArgs t (cfg0.slots t))) fun _ =>
        iprop((dats m 0 c).Φ t.succ ∗ (dats m 0 c).owesAt () t.succ
          ∗ bigSep Finset.univ fun w : Fin cfg0.W =>
              match cfg0.idle w (cfg0.grid.coords t) with
              | true =>
                match (cfg0.win w).flush t with
                | false => iprop(∃ d, owns (c : Thread nD τ) ((cfg0.win w).stage (cfg0.slots t w)) fullShare ((dats m 0 c).before w t d))
                | true => owns (c : Thread nD τ) ((cfg0.win w).stage (cfg0.slots t w)) fullShare ((dats m 0 c).after w t)
              | false => owns (c : Thread nD τ) ((cfg0.win w).stage (cfg0.slots t w)) fullShare ((dats m 0 c).after w t))

theorem held_before (c : Dev nD) (t : Fin cfg0.N) : (dats m 0 c).Φ t.castSucc = Φs m c t.val := rfl
theorem held_after (c : Dev nD) (t : Fin cfg0.N) : (dats m 0 c).Φ t.succ = Φs m c (t.val + 1) := rfl
theorem owed_after (c : Dev nD) (t : Fin cfg0.N) : (dats m 0 c).owesAt () t.succ = (dats m 0 c).owesAt () t.castSucc := rfl

/-- The body's obligation at the first grid point. -/
theorem obl_first (c : Dev nD) (t : Fin cfg0.N) (ht : t.val = 0) : Obl (F := F) m c t := by
  have i5 : cfg0.idle 5 (cfg0.grid.coords t) = true := (idle5 t).trans (by simp; omega)
  have i6 : cfg0.idle 6 (cfg0.grid.coords t) = true := (idle6 t).trans (by simp; omega)
  have f5 : (cfg0.win 5).flush t = false := (flush5 t).trans (by simp; omega)
  have f6 : (cfg0.win 6).flush t = false := (flush6 t).trans (by simp; omega)
  unfold Obl
  rw [bigSep_W0, bigSep_W0]
  rw [i5, i6, f5, f6]
  dsimp only
  sl_whnfR [defs₀, Defs.onTc]
  simp only [before0_0, before0_1, before0_2, before0_3, before0_4, after0_0, after0_1, after0_2, after0_3, after0_4]
  rw [held_before, held_after, owed_after]
  unfold Φs
  iintro ⟨⟨%h, %thr, %imp, %q, S0, S1, S2, S3, %I, R⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords t) _ _ _ _ _ _ _ _ _ _ _ _ _ _ _ _ _ _ _ _ _ _
      ((c1_iff t).mpr (by omega)) ((first_iff t).mpr (by omega)) (fun e => absurd ((gelu_iff t).mp e) (by omega))
      (fun e => absurd ((c4_iff t).mp e) (by omega)) (fun e => absurd ((c7_iff t).mp e) (by omega)) (fun e => absurd ((c8_iff t).mp e) (by omega))
      (iblk m c 0 t) (iblk m c 1 t) Set.univ _)
  isplitl [H0]; · iexact H0
  isplitl [H1]; · iexact H1
  isplitl [S0]; · iexists _; iexact S0
  iintro ⟨H0, H1, S0⟩
  isplitl [S0 S1 S2 S3 R]
  · iexists _, _, _, _
    isplitl [S0]; · iexact S0
    isplitl [S1]; · iexact S1
    isplitl [S2]; · iexact S2
    isplitl [S3]; · iexact S3
    isplitr; swap; · iexact R
    ipureintro; exact inv_first m c t ht I _
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

/-- The body's obligation at the second grid point. -/
theorem obl_acc (c : Dev nD) (t : Fin cfg0.N) (ht : t.val = 1) : Obl (F := F) m c t := by
  have i5 : cfg0.idle 5 (cfg0.grid.coords t) = true := (idle5 t).trans (by simp; omega)
  have i6 : cfg0.idle 6 (cfg0.grid.coords t) = true := (idle6 t).trans (by simp; omega)
  have f5 : (cfg0.win 5).flush t = false := (flush5 t).trans (by simp; omega)
  have f6 : (cfg0.win 6).flush t = false := (flush6 t).trans (by simp; omega)
  unfold Obl
  rw [bigSep_W0, bigSep_W0]
  rw [i5, i6, f5, f6]
  dsimp only
  sl_whnfR [defs₀, Defs.onTc]
  simp only [before0_0, before0_1, before0_2, before0_3, before0_4, after0_0, after0_1, after0_2, after0_3, after0_4]
  rw [held_before, held_after, owed_after]
  unfold Φs
  iintro ⟨⟨%h, %thr, %imp, %q, S0, S1, S2, S3, %I, R⟩, Ho, ⟨%d0, H0⟩, ⟨%d1, H1⟩, ⟨%d2, H2⟩, ⟨%d3, H3⟩, ⟨%d4, H4⟩, ⟨%d5, H5⟩, ⟨%d6, H6⟩⟩
  iapply (run_acc c (grid0.coords t) _ _ _ _ _ _ _ _ _ _ _ _ _ _ _ _ _ _ _ _ _ _
      ((c1_iff t).mpr (by omega)) (fun e => absurd ((first_iff t).mp e) (by omega)) (fun e => absurd ((gelu_iff t).mp e) (by omega))
      (fun e => absurd ((c4_iff t).mp e) (by omega)) (fun e => absurd ((c7_iff t).mp e) (by omega)) (fun e => absurd ((c8_iff t).mp e) (by omega))
      (iblk m c 0 t) (iblk m c 1 t) h Set.univ _)
  isplitl [H0]; · iexact H0
  isplitl [H1]; · iexact H1
  isplitl [S0]; · iexact S0
  iintro ⟨H0, H1, S0⟩
  isplitl [S0 S1 S2 S3 R]
  · iexists _, _, _, _
    isplitl [S0]; · iexact S0
    isplitl [S1]; · iexact S1
    isplitl [S2]; · iexact S2
    isplitl [S3]; · iexact S3
    isplitr; swap; · iexact R
    ipureintro; exact inv_acc m c t ht I _
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexists d6; iexact H6

/-- The body's obligation at the third grid point. -/
theorem obl_gelu (c : Dev nD) (t : Fin cfg0.N) (ht : t.val = 2) : Obl (F := F) m c t := by
  have i5 : cfg0.idle 5 (cfg0.grid.coords t) = false := (idle5 t).trans (by simp; omega)
  have i6 : cfg0.idle 6 (cfg0.grid.coords t) = true := (idle6 t).trans (by simp; omega)
  have f6 : (cfg0.win 6).flush t = false := (flush6 t).trans (by simp; omega)
  unfold Obl
  rw [bigSep_W0, bigSep_W0]
  rw [i5, i6, f6]
  dsimp only
  rw [after0_5]
  sl_whnfR [defs₀, Defs.onTc]
  simp only [before0_0, before0_1, before0_2, before0_3, before0_4, after0_0, after0_1, after0_2, after0_3, after0_4]
  rw [held_before, held_after, owed_after]
  unfold Φs
  iintro ⟨⟨%h, %thr, %imp, %q, S0, S1, S2, S3, %I, R⟩, Ho, ⟨%d0, H0⟩, ⟨%d1, H1⟩, ⟨%d2, H2⟩, ⟨%d3, H3⟩, ⟨%d4, H4⟩, ⟨%d5, H5⟩, ⟨%d6, H6⟩⟩
  iapply (run_gelu c (grid0.coords t) _ _ _ _ _ _ _ _ _ _ _ _ _ _ _ _ _ _ _ _ _ _
      (fun e => absurd ((c1_iff t).mp e) (by omega)) ((gelu_iff t).mpr (by omega)) ((c4_iff t).mpr (by omega))
      ((c5_iff t).mpr (by omega)) (fun e => absurd ((c6_iff t).mp e) (by omega)) (fun e => absurd ((c7_iff t).mp e) (by omega)) (fun e => absurd ((c8_iff t).mp e) (by omega))
      (iblk m c 2 t) (iblk m c 3 t) (iblk m c 4 t) h imp q Set.univ _)
  isplitl [H2]; · iexact H2
  isplitl [H3]; · iexact H3
  isplitl [H4]; · iexact H4
  isplitl [H5]; · iexists _; iexact H5
  isplitl [S0]; · iexact S0
  isplitl [S2]; · iexact S2
  isplitl [S3]; · iexact S3
  iintro ⟨H2, H3, H4, H5, S0, S2, S3⟩
  rw [out_gelu m c t ht I]
  isplitl [S0 S1 S2 S3 R]
  · iexists _, _, _, _
    isplitl [S0]; · iexact S0
    isplitl [S1]; · iexact S1
    isplitl [S2]; · iexact S2
    isplitl [S3]; · iexact S3
    isplitr; swap; · iexact R
    ipureintro; exact inv_gelu m c t ht I
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body's obligation at the fourth grid point. -/
theorem obl_high (c : Dev nD) (t : Fin cfg0.N) (ht : t.val = 3) : Obl (F := F) m c t := by
  have i5 : cfg0.idle 5 (cfg0.grid.coords t) = false := (idle5 t).trans (by simp; omega)
  have i6 : cfg0.idle 6 (cfg0.grid.coords t) = true := (idle6 t).trans (by simp; omega)
  have f6 : (cfg0.win 6).flush t = false := (flush6 t).trans (by simp; omega)
  unfold Obl
  rw [bigSep_W0, bigSep_W0]
  rw [i5, i6, f6]
  dsimp only
  rw [after0_5]
  sl_whnfR [defs₀, Defs.onTc]
  simp only [before0_0, before0_1, before0_2, before0_3, before0_4, after0_0, after0_1, after0_2, after0_3, after0_4]
  rw [held_before, held_after, owed_after]
  unfold Φs
  iintro ⟨⟨%h, %thr, %imp, %q, S0, S1, S2, S3, %I, R⟩, Ho, ⟨%d0, H0⟩, ⟨%d1, H1⟩, ⟨%d2, H2⟩, ⟨%d3, H3⟩, ⟨%d4, H4⟩, ⟨%d5, H5⟩, ⟨%d6, H6⟩⟩
  iapply (run_high c (grid0.coords t) _ _ _ _ _ _ _ _ _ _ _ _ _ _ _ _ _ _ _ _ _ _
      (fun e => absurd ((c1_iff t).mp e) (by omega)) (fun e => absurd ((gelu_iff t).mp e) (by omega)) ((c4_iff t).mpr (by omega))
      ((c5_iff t).mpr (by omega)) (fun e => absurd ((c6_iff t).mp e) (by omega)) (fun e => absurd ((c7_iff t).mp e) (by omega)) (fun e => absurd ((c8_iff t).mp e) (by omega))
      (iblk m c 3 t) (iblk m c 4 t) h imp q Set.univ _)
  isplitl [H3]; · iexact H3
  isplitl [H4]; · iexact H4
  isplitl [H5]; · iexists _; iexact H5
  isplitl [S0]; · iexact S0
  isplitl [S2]; · iexact S2
  isplitl [S3]; · iexact S3
  iintro ⟨H3, H4, H5, S0, S2, S3⟩
  rw [out_late m c t (by omega) I]
  isplitl [S0 S1 S2 S3 R]
  · iexists _, _, _, _
    isplitl [S0]; · iexact S0
    isplitl [S1]; · iexact S1
    isplitl [S2]; · iexact S2
    isplitl [S3]; · iexact S3
    isplitr; swap; · iexact R
    ipureintro; exact inv_high m c t ht I
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body's obligation at the fifth and the sixth grid point. -/
theorem obl_low (c : Dev nD) (t : Fin cfg0.N) (ht : 4 ≤ t.val ∧ t.val < 6) : Obl (F := F) m c t := by
  have i5 : cfg0.idle 5 (cfg0.grid.coords t) = false := (idle5 t).trans (by simp; omega)
  have i6 : cfg0.idle 6 (cfg0.grid.coords t) = true := (idle6 t).trans (by simp; omega)
  have f6 : (cfg0.win 6).flush t = false := (flush6 t).trans (by simp; omega)
  unfold Obl
  rw [bigSep_W0, bigSep_W0]
  rw [i5, i6, f6]
  dsimp only
  rw [after0_5]
  sl_whnfR [defs₀, Defs.onTc]
  simp only [before0_0, before0_1, before0_2, before0_3, before0_4, after0_0, after0_1, after0_2, after0_3, after0_4]
  rw [held_before, held_after, owed_after]
  unfold Φs
  iintro ⟨⟨%h, %thr, %imp, %q, S0, S1, S2, S3, %I, R⟩, Ho, ⟨%d0, H0⟩, ⟨%d1, H1⟩, ⟨%d2, H2⟩, ⟨%d3, H3⟩, ⟨%d4, H4⟩, ⟨%d5, H5⟩, ⟨%d6, H6⟩⟩
  iapply (run_low c (grid0.coords t) _ _ _ _ _ _ _ _ _ _ _ _ _ _ _ _ _ _ _ _ _ _
      (fun e => absurd ((c1_iff t).mp e) (by omega)) (fun e => absurd ((gelu_iff t).mp e) (by omega)) ((c4_iff t).mpr (by omega))
      (fun e => absurd ((c5_iff t).mp e) (by omega)) ((c6_iff t).mpr (by omega)) (fun e => absurd ((c7_iff t).mp e) (by omega)) (fun e => absurd ((c8_iff t).mp e) (by omega))
      (iblk m c 3 t) (iblk m c 4 t) h imp q Set.univ _)
  isplitl [H3]; · iexact H3
  isplitl [H4]; · iexact H4
  isplitl [H5]; · iexists _; iexact H5
  isplitl [S0]; · iexact S0
  isplitl [S2]; · iexact S2
  isplitl [S3]; · iexact S3
  iintro ⟨H3, H4, H5, S0, S2, S3⟩
  rw [out_late m c t (by omega) I]
  isplitl [S0 S1 S2 S3 R]
  · iexists _, _, _, _
    isplitl [S0]; · iexact S0
    isplitl [S1]; · iexact S1
    isplitl [S2]; · iexact S2
    isplitl [S3]; · iexact S3
    isplitr; swap; · iexact R
    ipureintro; exact inv_low m c t ht I _
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body's obligation at the seventh grid point. -/
theorem obl_search (c : Dev nD) (t : Fin cfg0.N) (ht : t.val = 6) : Obl (F := F) m c t := by
  have i5 : cfg0.idle 5 (cfg0.grid.coords t) = true := (idle5 t).trans (by simp; omega)
  have i6 : cfg0.idle 6 (cfg0.grid.coords t) = false := (idle6 t).trans (by simp; omega)
  have f5 : (cfg0.win 5).flush t = false := (flush5 t).trans (by simp; omega)
  unfold Obl
  rw [bigSep_W0, bigSep_W0]
  rw [i5, i6, f5]
  dsimp only
  rw [after0_6]
  sl_whnfR [defs₀, Defs.onTc]
  simp only [before0_0, before0_1, before0_2, before0_3, before0_4, after0_0, after0_1, after0_2, after0_3, after0_4]
  rw [held_before, held_after, owed_after]
  unfold Φs
  iintro ⟨⟨%h, %thr, %imp, %q, S0, S1, S2, S3, %I, R⟩, Ho, ⟨%d0, H0⟩, ⟨%d1, H1⟩, ⟨%d2, H2⟩, ⟨%d3, H3⟩, ⟨%d4, H4⟩, ⟨%d5, H5⟩, ⟨%d6, H6⟩⟩
  iapply (run_search c (grid0.coords t) _ _ _ _ _ _ _ _ _ _ _ _ _ _ _ _ _ _ _ _ _ _
      (fun e => absurd ((c1_iff t).mp e) (by omega)) (fun e => absurd ((gelu_iff t).mp e) (by omega)) (fun e => absurd ((c4_iff t).mp e) (by omega))
      ((c7_iff t).mpr (by omega)) ((c8_iff t).mpr (by omega))
      (iblk m c 0 t) imp q Set.univ _)
  isplitl [H0]; · iexact H0
  isplitl [H6]; · iexists _; iexact H6
  isplitl [S1]; · iexists _; iexact S1
  isplitl [S2]; · iexact S2
  isplitl [S3]; · iexact S3
  iintro ⟨H0, H6, S1, S2, S3⟩
  rw [out_search m c t ht I _]
  isplitl [S0 S1 S2 S3 R]
  · iexists _, _, _, _
    isplitl [S0]; · iexact S0
    isplitl [S1]; · iexact S1
    isplitl [S2]; · iexact S2
    isplitl [S3]; · iexact S3
    isplitr; swap; · iexact R
    ipureintro; exact inv_search m c t ht I
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexact H6

/-- The body's obligation at the last three grid points. -/
theorem obl_gate (c : Dev nD) (t : Fin cfg0.N) (ht : 7 ≤ t.val) : Obl (F := F) m c t := by
  have i5 : cfg0.idle 5 (cfg0.grid.coords t) = true := (idle5 t).trans (by simp; omega)
  have i6 : cfg0.idle 6 (cfg0.grid.coords t) = false := (idle6 t).trans (by simp; omega)
  unfold Obl
  rw [bigSep_W0, bigSep_W0]
  rw [i5, i6]
  dsimp only
  rw [after0_6]
  sl_whnfR [defs₀, Defs.onTc]
  simp only [before0_0, before0_1, before0_2, before0_3, before0_4, after0_0, after0_1, after0_2, after0_3, after0_4]
  rw [held_before, held_after, owed_after]
  unfold Φs
  iintro ⟨⟨%h, %thr, %imp, %q, S0, S1, S2, S3, %I, R⟩, Ho, ⟨%d0, H0⟩, ⟨%d1, H1⟩, ⟨%d2, H2⟩, ⟨%d3, H3⟩, ⟨%d4, H4⟩, ⟨%d5, H5⟩, ⟨%d6, H6⟩⟩
  iapply (run_gate c (grid0.coords t) _ _ _ _ _ _ _ _ _ _ _ _ _ _ _ _ _ _ _ _ _ _
      (fun e => absurd ((c1_iff t).mp e) (by omega)) (fun e => absurd ((gelu_iff t).mp e) (by omega)) (fun e => absurd ((c4_iff t).mp e) (by omega))
      (fun e => absurd ((c7_iff t).mp e) (by omega)) ((c8_iff t).mpr (by omega))
      (iblk m c 0 t) thr imp Set.univ _)
  isplitl [H0]; · iexact H0
  isplitl [H6]; · iexists _; iexact H6
  isplitl [S1]; · iexact S1
  isplitl [S2]; · iexact S2
  iintro ⟨H0, H6, S1, S2⟩
  rw [out_gate m c t ht I _]
  isplitl [S0 S1 S2 S3 R]
  · iexists _, _, _, _
    isplitl [S0]; · iexact S0
    isplitl [S1]; · iexact S1
    isplitl [S2]; · iexact S2
    isplitl [S3]; · iexact S3
    isplitr; swap; · iexact R
    ipureintro; exact I.keep ht
  isplitl [Ho]; · iexact Ho
  isplitl [H0]; · iexact H0
  isplitl [H1]; · iexact H1
  isplitl [H2]; · iexact H2
  isplitl [H3]; · iexact H3
  isplitl [H4]; · iexact H4
  isplitl [H5]
  · by_cases e9 : t.val = 9
    · rw [show (cfg0.win 5).flush t = true from (flush5 t).trans (by simp; omega)]
      dsimp only
      rw [← before5_late m c t e9 d5]; iexact H5
    · rw [show (cfg0.win 5).flush t = false from (flush5 t).trans (by simp; omega)]
      dsimp only
      iexists d5; iexact H5
  iexact H6

/-- The body's obligation at every grid point. -/
theorem body_obligation (c : Dev nD) : BodyObligation (dats (F := F) m 0 c) (defs₀ (F := F)) Variants.none () Set.univ := fun t => by
  show Obl m c t
  have hp : t.val < 10 := t.isLt
  rcases (by omega : t.val = 0 ∨ t.val = 1 ∨ t.val = 2 ∨ t.val = 3 ∨ (4 ≤ t.val ∧ t.val < 6) ∨ t.val = 6 ∨ 7 ≤ t.val) with h | h | h | h | h | h | h
  · exact obl_first m c t h
  · exact obl_acc m c t h
  · exact obl_gelu m c t h
  · exact obl_high m c t h
  · exact obl_low m c t h
  · exact obl_search m c t h
  · exact obl_gate m c t h

-- the run theorem's implicit arguments are found by unifying its conclusion with this one
set_option backward.isDefEq.respectTransparency.types false in
/-- From any memory with zero counters, @main ends, with every array of the pipeline at what the proof data say and every counter at
    zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl)
    (hin := fun c => by
      show ΦA spec0 c ⊢ Φs m c 0
      unfold ΦA Φs
      rw [scopedRest0_eq]
      simp only [owns_whole]
      iintro ⟨⟨⟨%f0, S0⟩, ⟨%f1, S1⟩, ⟨%f2, S2⟩, %f3, S3⟩, R⟩
      iexists f0, f1, f2, f3
      isplitl [S0]; · iexact S0
      isplitl [S1]; · iexact S1
      isplitl [S2]; · iexact S2
      isplitl [S3]; · iexact S3
      isplitr; swap; · iexact R
      ipureintro; exact Inv.zero _ _ _ _)
    (hout := fun c => by
      show Φs m c 10 ⊢ ΦA spec0 c
      unfold ΦA Φs
      rw [scopedRest0_eq]
      simp only [owns_whole]
      iintro ⟨%f0, %f1, %f2, %f3, S0, S1, S2, S3, -, R⟩
      isplitr [R]; swap; · iexact R
      isplitl [S0]; · iexists f0; iexact S0
      isplitl [S1]; · iexists f1; iexact S1
      isplitl [S2]; · iexists f2; iexact S2
      iexists f3; iexact S3)

/-- The frame: the arguments are as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.KernelIdeal.Hand
-- ==== Proof.Reference.lean ====
/-
  The reference's run: it ends with no semaphore raised, for it has none, its arguments as they were, and the
  two results that its stages compute.
-/
module

public import proofs.«01_k».proof.Proof.Gen.ReferenceIdeal.Run
public import proofs.«01_k».proof.Proof.Gen.ReferenceIdeal.Read

@[expose] public section

noncomputable section

namespace Cert.ReferenceIdeal.Hand

open Cert.ReferenceIdeal Cert.ReferenceIdeal.Gen
open Idealize.ShloMosaic Idealize.ShloMosaic.TcCoe Idealize.SL.Sem

/-- The program has no semaphores. -/
theorem no_sem (sm : SemLoc sig) : False := by
  match sm with
  | .reg s => exact s.elim0
  | .dma s => exact s.elim0

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => (h c).2.2, funext fun g => (no_sem g.2).elim⟩) (Value.run m ρ)

/-- The run with its two results, as the stages of the reference. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39) = Read.val_main_v39 (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_v20) = Read.val_main_v20 (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨(h c).1.trans (Read.val_main_v39_eq _ _ _ _ _), (h c).2.1.trans (Read.val_main_v20_eq _ _ _ _ _), (h c).2.2⟩)
    (Value.run m ρ)

end Cert.ReferenceIdeal.Hand
-- ==== Proof.Values.lean ====
/-
  The kernel's float payloads in exact arithmetic, element by element: what one store holds at a row and a column, from the
  elements of what the body loaded.
-/
module

public import proofs.«01_k».proof.Proof.Blocks
public import Idealize.ShloMosaic.PureOps.Ideal.Laws
public import Idealize.ShloMosaic.Lib.Pointwise.Contract
public import Idealize.ShloMosaic.Lib.ValueIdxCore
public import Idealize.ShloMosaic.Lib.Pipeline.Value

@[expose] public section

set_option maxRecDepth 16384

noncomputable section

namespace Cert.KernelIdeal.Hand

open Cert.KernelIdeal Cert.KernelIdeal.Gen
open Idealize.ShloMosaic hiding ix2
open Idealize.ShloMosaic.TcCoe
open Idealize.ShloMosaic.ValueIdx (ix1 ix2 eq_ix2)

/-! ## The constants -/

theorem zero_word : (Scalar.ofBits .f32 0x00000000#32 : Ideal .f32) = (0 : EReal) := by
  simp [Ideal.ofBits, Ideal.ieee, -EReal.coe_mul]
theorem one_word : (Scalar.ofBits .f32 0x3F800000#32 : Ideal .f32) = (1 : EReal) := by
  simp [Ideal.ofBits, Ideal.ieee, -EReal.coe_mul]; norm_num

/-! ## The products and what follows them -/

/-- The first product's step: the accumulator plus the sum over the half's 4096 columns. -/
theorem pay2_at (v21 : Vec Ideal S128x512 .f32) (v24 : Vec Ideal S128x4096 .f32) (v25 : Vec Ideal S4096x512 .f32) (i : Fin 128) (j : Fin 512) :
    k0_pay2 (F := Ideal) v21 v24 v25 (ix2 i j)
      = (v21 (ix2 i j) + ∑ k : Fin 4096, v24 (ix2 i k) * v25 (ix2 k j) : EReal) := by
  unfold k0_pay2
  rw [shapeCast_self]
  refine congrArg (fun z : EReal => (v21 (ix2 i j) : EReal) + z) ?_
  refine (Ideal.matmul_apply₁_of dot_S128x4096_S4096x512_S128x512_1_0_0_1_n_n (a := 1) rfl (K := 4096) rfl v24 v25 _ (ix2 i j)
    (fun k => ix2 i k) (fun k => ix2 k j) ?_ ?_).trans ?_
  · intro k; funext a; match a with
    | ⟨0, _⟩ => rfl
    | ⟨1, _⟩ => rfl
  · intro k; funext a; match a with
    | ⟨0, _⟩ => rfl
    | ⟨1, _⟩ => rfl
  · show (Scalar.ofBits .f32 0x00000000#32 : Ideal .f32) + _ = _
    rw [zero_word]; exact zero_add _

/-- A column of a row spread over all rows. -/
theorem spread512 (v : S1x512.Idx → EReal) (i : Fin 128) (j : Fin 512) :
    broadcastTo S128x512 v broadcasts_S1x512_S128x512 (ix2 i j) = v (ix2 0 j) :=
  broadcastTo_apply _ _ _ _ fun a => match a with
    | ⟨0, _⟩ => rfl
    | ⟨1, _⟩ => rfl

/-- The exact-arithmetic GELU of the kernel. -/
def gelu (v : EReal) : EReal :=
  (Scalar.ofBits .f32 0x3F000000#32 : Ideal .f32) * v * (1 + Ideal.erf (v * (Scalar.ofBits .f32 0x3F3504F3#32 : Ideal .f32)))

theorem pay3_at (v17 : Vec Ideal S128x512 .f32) (v18 : Vec Ideal S1x512 .f32) (i : Fin 128) (j : Fin 512) :
    k0_pay3 (F := Ideal) v17 v18 (ix2 i j) = gelu ((v17 (ix2 i j) : EReal) + v18 (ix2 0 j)) := by
  have e : (broadcastTo S128x512 (shapeCast S1x512 v18 shapeCasts_S1x512_S1x512) broadcasts_S1x512_S128x512 (ix2 i j) : EReal) = v18 (ix2 0 j) := by
    rw [shapeCast_self]; exact spread512 _ _ _
  unfold k0_pay3
  rw [shapeCast_self, gelu, ← e, ← one_word]
  rfl

theorem spread2048 (v : S1x2048.Idx → EReal) (i : Fin 128) (j : Fin 2048) :
    broadcastTo S128x2048 v broadcasts_S1x2048_S128x2048 (ix2 i j) = v (ix2 0 j) :=
  broadcastTo_apply _ _ _ _ fun a => match a with
    | ⟨0, _⟩ => rfl
    | ⟨1, _⟩ => rfl

/-- The importance: the logistic function of the second product and its bias. -/
theorem pay13_at (v18 : Vec Ideal S128x512 .f32) (v19 : Vec Ideal S512x2048 .f32) (v21 : Vec Ideal S1x2048 .f32) (i : Fin 128) (j : Fin 2048) :
    k0_pay13 (F := Ideal) v18 v19 v21 (ix2 i j)
      = Ideal.logistic ((∑ k : Fin 512, v18 (ix2 i k) * v19 (ix2 k j) : EReal) + v21 (ix2 0 j)) := by
  have e : (broadcastTo S128x2048 (shapeCast S1x2048 v21 shapeCasts_S1x2048_S1x2048) broadcasts_S1x2048_S128x2048 (ix2 i j) : EReal) = v21 (ix2 0 j) := by
    rw [shapeCast_self]; exact spread2048 _ _ _
  unfold k0_pay13
  refine congrArg Ideal.logistic (congrArg₂ (fun a b : EReal => a + b) ?_ e)
  refine (Ideal.matmul_apply₁_of dot_S128x512_S512x2048_S128x2048_1_0_0_1_n_n (a := 1) rfl (K := 512) rfl v18 v19 _ (ix2 i j)
    (fun k => ix2 i k) (fun k => ix2 k j) ?_ ?_).trans ?_
  · intro k; funext a; match a with
    | ⟨0, _⟩ => rfl
    | ⟨1, _⟩ => rfl
  · intro k; funext a; match a with
    | ⟨0, _⟩ => rfl
    | ⟨1, _⟩ => rfl
  · show (Scalar.ofBits .f32 0x00000000#32 : Ideal .f32) + _ = _
    rw [zero_word]; exact zero_add _

/-! ## The gate -/

theorem spreadCol (v : S128x1.Idx → EReal) (i : Fin 128) (j : Fin 2048) :
    broadcastTo S128x2048 v broadcasts_S128x1_S128x2048 (ix2 i j) = v (ix2 i 0) :=
  broadcastTo_apply _ _ _ _ fun a => match a with
    | ⟨0, _⟩ => rfl
    | ⟨1, _⟩ => rfl

theorem pay12_at (v20 : Vec Ideal S128x2048 .f32) (v21 : Vec Ideal S128x1 .f32) (v24 : Vec Ideal S128x2048 .f32) (i : Fin 128) (j : Fin 2048) :
    k0_pay12 (F := Ideal) v20 v21 v24 (ix2 i j)
      = ((v24 (ix2 i j) : EReal) * Ideal.logistic ((Scalar.ofBits .f32 0x41200000#32 : Ideal .f32) * (v20 (ix2 i j) - v21 (ix2 i 0)) : EReal)) := by
  unfold k0_pay12
  refine congrArg (fun z : EReal => (v24 (ix2 i j) : EReal) * Ideal.logistic ((Scalar.ofBits .f32 0x41200000#32 : Ideal .f32) * ((v20 (ix2 i j) : EReal) - z))) ?_
  exact spreadCol _ _ _

theorem spread128 (v : S128x1.Idx → EReal) (i j : Fin 128) :
    broadcastTo S128x128 v broadcasts_S128x1_S128x128 (ix2 i j) = v (ix2 i 0) :=
  broadcastTo_apply _ _ _ _ fun a => match a with
    | ⟨0, _⟩ => rfl
    | ⟨1, _⟩ => rfl

theorem pay11_at (v : IVec S128x1 32) (i j : Fin 128) :
    k0_pay11 (F := Ideal) v (ix2 i j)
      = ((((v (ix2 i 0)).toInt : ℝ) : EReal) * (Scalar.ofBits .f32 0x38000000#32 : Ideal .f32)) := by
  unfold k0_pay11
  rw [shapeCast_self, shapeCast_self]
  exact spread128 _ _ _

end Cert.KernelIdeal.Hand
-- ==== Proof.Arrays.lean ====
/-
  The kernel's arrays: which element of an argument each input block's element is, and what the two results hold after the run,
  element by element, from the blocks written back.
-/
module

public import proofs.«01_k».proof.Proof.Run
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic
open Idealize.ShloMosaic.TcCoe Idealize.SL.Sem
open Idealize.ShloMosaic.ValueIdx (ix1 ix2 eq_ix2)

variable {F : FTy → Type} [FloatOps F]
variable (m : (ℓ : Loc nD τ sig) → Buf (Elt F) ℓ) (ρ : Dev nD → PrngReg) (c : Dev nD)

/-! ## Where each window's block lies -/

theorem index0 : ∀ t : Fin cfg0.N, (cfg0.win 0).index t = ![0, 0] :=
  (by decide +kernel : ∀ t : Fin grid0.N, (cfg0.win 0).index t = ![0, 0])
theorem index1 : ∀ t : Fin cfg0.N, (cfg0.win 1).index t = ![min t.val 1, 0] :=
  (by decide +kernel : ∀ t : Fin grid0.N, (cfg0.win 1).index t = ![min t.val 1, 0])
theorem index2 : ∀ t : Fin cfg0.N, (cfg0.win 2).index t = ![0, 0] :=
  (by decide +kernel : ∀ t : Fin grid0.N, (cfg0.win 2).index t = ![0, 0])
theorem index3 : ∀ t : Fin cfg0.N, (cfg0.win 3).index t = ![0, min (t.val - 2) 3] :=
  (by decide +kernel : ∀ t : Fin grid0.N, (cfg0.win 3).index t = ![0, min (t.val - 2) 3])
theorem index4 : ∀ t : Fin cfg0.N, (cfg0.win 4).index t = ![0, min (t.val - 2) 3] :=
  (by decide +kernel : ∀ t : Fin grid0.N, (cfg0.win 4).index t = ![0, min (t.val - 2) 3])
theorem index5 : ∀ t : Fin cfg0.N, (cfg0.win 5).index t = ![0, min (t.val - 2) 3] :=
  (by decide +kernel : ∀ t : Fin grid0.N, (cfg0.win 5).index t = ![0, min (t.val - 2) 3])
theorem index6 : ∀ t : Fin cfg0.N, (cfg0.win 6).index t = ![0, min (t.val - 6) 3] :=
  (by decide +kernel : ∀ t : Fin grid0.N, (cfg0.win 6).index t = ![0, min (t.val - 6) 3])

/-! ## The input blocks, element by element -/

/-- The two biases, as the first two operations of @main reshape them. -/
theorem V_main_v0 : V m c main_v0 = shapeCast S1x512 (m ((c : Thread nD τ).loc main_arg2)) shapeCasts_S512_S1x512 := rfl
theorem V_main_v1 : V m c main_v1 = shapeCast S1x8192 (m ((c : Thread nD τ).loc main_arg4)) shapeCasts_S8192_S1x8192 := rfl

theorem inX_at (k : ℕ) (h : k < 10) (i : Fin 128) (j : Fin 8192) :
    inX m c k h (ix2 i j) = m ((c : Thread nD τ).loc main_arg0) (ix2 i j) := by
  show V m c main_arg0 (((cfg0.win 0).blk (pt k h)).view.emb (ix2 i j)) = _
  rw [V_main_arg0]
  refine congrArg _ (funext fun a => Fin.ext ?_)
  refine (Pipeline.Window.rect_emb_val (cfg0.win 0) (pt k h) (ix2 i j) a).trans ?_
  rw [index0]
  match a with
  | ⟨0, _⟩ => exact (show 0 * 128 + i.val = i.val by omega)
  | ⟨1, _⟩ => exact (show 0 * 8192 + j.val = j.val by omega)

theorem inW1_at (k : ℕ) (h : k < 2) (i : Fin 4096) (j : Fin 512) :
    inW1 m c k (by omega) (ix2 i j) = m ((c : Thread nD τ).loc main_arg1) (ix2 ⟨4096 * k + i.val, by omega⟩ j) := by
  have hp : k < 10 := by omega
  show V m c main_arg1 (((cfg0.win 1).blk (pt k hp)).view.emb (ix2 i j)) = _
  rw [V_main_arg1]
  refine congrArg _ (funext fun a => Fin.ext ?_)
  refine (Pipeline.Window.rect_emb_val (cfg0.win 1) (pt k hp) (ix2 i j) a).trans ?_
  rw [index1]
  match a with
  | ⟨0, _⟩ => exact (show min k 1 * 4096 + i.val = 4096 * k + i.val by omega)
  | ⟨1, _⟩ => exact (show 0 * 512 + j.val = j.val by omega)

theorem inB1_at (k : ℕ) (h : k < 10) (j : Fin 512) :
    inB1 m c k h (ix2 0 j) = m ((c : Thread nD τ).loc main_arg2) (ix1 j) := by
  show V m c main_v0 (((cfg0.win 2).blk (pt k h)).view.emb (ix2 0 j)) = _
  have e : ((cfg0.win 2).blk (pt k h)).view.emb (ix2 0 j) = ix2 (0 : Fin 1) j := by
    refine funext fun a => Fin.ext ?_
    refine (Pipeline.Window.rect_emb_val (cfg0.win 2) (pt k h) (ix2 0 j) a).trans ?_
    rw [index2]
    match a with
    | ⟨0, _⟩ => rfl
    | ⟨1, _⟩ => exact (show 0 * 512 + j.val = j.val by omega)
  rw [e, V_main_v0]
  exact shapeCast_apply (s := S512) (t := S1x512) _ _ _ _ (by
    rw [Shape.rowMajor_val_one, Shape.rowMajor_val_two]
    show j.val = 0 * 512 + j.val
    omega)

theorem inW2_at (k : ℕ) (h : k < 4) (i : Fin 512) (j : Fin 2048) :
    inW2 m c (k + 2) (by omega) (ix2 i j) = m ((c : Thread nD τ).loc main_arg3) (ix2 i ⟨2048 * k + j.val, by omega⟩) := by
  have hp : k + 2 < 10 := by omega
  show V m c main_arg3 (((cfg0.win 3).blk (pt (k + 2) hp)).view.emb (ix2 i j)) = _
  rw [V_main_arg3]
  refine congrArg _ (funext fun a => Fin.ext ?_)
  refine (Pipeline.Window.rect_emb_val (cfg0.win 3) (pt (k + 2) hp) (ix2 i j) a).trans ?_
  rw [index3]
  match a with
  | ⟨0, _⟩ => exact (show 0 * 512 + i.val = i.val by omega)
  | ⟨1, _⟩ => exact (show min (k + 2 - 2) 3 * 2048 + j.val = 2048 * k + j.val by omega)

theorem inB2_at (k : ℕ) (h : k < 4) (j : Fin 2048) :
    inB2 m c (k + 2) (by omega) (ix2 0 j) = m ((c : Thread nD τ).loc main_arg4) (ix1 ⟨2048 * k + j.val, by omega⟩) := by
  have hp : k + 2 < 10 := by omega
  show V m c main_v1 (((cfg0.win 4).blk (pt (k + 2) hp)).view.emb (ix2 0 j)) = _
  have e : ((cfg0.win 4).blk (pt (k + 2) hp)).view.emb (ix2 0 j) = ix2 (0 : Fin 1) (⟨2048 * k + j.val, by omega⟩ : Fin 8192) := by
    refine funext fun a => Fin.ext ?_
    refine (Pipeline.Window.rect_emb_val (cfg0.win 4) (pt (k + 2) hp) (ix2 0 j) a).trans ?_
    rw [index4]
    match a with
    | ⟨0, _⟩ => rfl
    | ⟨1, _⟩ => exact (show min (k + 2 - 2) 3 * 2048 + j.val = 2048 * k + j.val by omega)
  rw [e, V_main_v1]
  exact shapeCast_apply (s := S8192) (t := S1x8192) _ _ _ _ (by
    rw [Shape.rowMajor_val_one, Shape.rowMajor_val_two]
    show 2048 * k + j.val = 0 * 8192 + (2048 * k + j.val)
    omega)

/-! ## The results -/

/-- Four blocks of 2048 columns side by side. -/
def tiles {α : Type} (f : ∀ k, k < 4 → S128x2048.Idx → α) : S128x8192.Idx → α := fun y =>
  f ((y 1).val / 2048) (by have : (y 1).val < 8192 := (y 1).isLt; omega)
    (ix2 (n0 := 128) (n1 := 2048) (y 0) ⟨(y 1).val % 2048, Nat.mod_lt _ (by omega)⟩)

/-- An element of one of the blocks, where it lies in the whole. -/
theorem tiles_of {α : Type} (f : ∀ k, k < 4 → S128x2048.Idx → α) (y : S128x8192.Idx) (k : ℕ) (h : k < 4) (x : S128x2048.Idx)
    (h0 : (y 0).val = (x 0).val) (h1 : (y 1).val = k * 2048 + (x 1).val) : tiles f y = f k h x := by
  have hx : (x 1).val < 2048 := (x 1).isLt
  have ek : (y 1).val / 2048 = k := by omega
  unfold tiles
  have e : (ix2 (n0 := 128) (n1 := 2048) (y 0) ⟨(y 1).val % 2048, Nat.mod_lt _ (by omega)⟩) = x := by
    rw [eq_ix2 x]
    refine congrArg₂ ix2 (Fin.ext h0) (Fin.ext ?_)
    show (y 1).val % 2048 = (x 1).val
    omega
  rw [e]
  subst ek
  rfl

/-- The importance after the run. -/
def impArr : S128x8192.Idx → F .f32 := tiles (impOut m c)
/-- The gated result after the run. -/
def gateArr : S128x8192.Idx → F .f32 := tiles (gateBlk m c)

theorem final_imp : (dats m 0 c).arrAt 5 cfg0.N = impArr m c := by
  refine (dats m 0 c).arrAt_eq_of_covers 5 _ (by decide +kernel) fun t hf y => ?_
  have e := Pipeline.Window.rect_emb_val (cfg0.win 5) t y
  rw [index5] at e
  exact (tiles_of (impOut m c) _ (min (t.val - 2) 3) (by omega) y
    ((e 0).trans (show 0 * 128 + (y 0).val = (y 0).val by omega)) (e 1)).symm

theorem final_gate : (dats m 0 c).arrAt 6 cfg0.N = gateArr m c := by
  refine (dats m 0 c).arrAt_eq_of_covers 6 _ (by decide +kernel) fun t hf y => ?_
  have e := Pipeline.Window.rect_emb_val (cfg0.win 6) t y
  rw [index6] at e
  exact (tiles_of (gateBlk m c) _ (min (t.val - 6) 3) (by omega) y
    ((e 0).trans (show 0 * 128 + (y 0).val = (y 0).val by omega)) (e 1)).symm

/-- The run of @main: both results, and the arguments as launched. -/
theorem run_values : θ_run defs (onTc (τ := τ) (main (F := F))) ⟨m, fun _ => 0, ρ⟩ (fun r => ∀ c : Dev nD,
      r.2.mem ((c.tc : Thread nD τ).loc main_v2_1) = gateArr m c
      ∧ r.2.mem ((c.tc : Thread nD τ).loc main_v2_0) = impArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h.1.out_eq c 6).trans (final_gate m c), (h.1.out_eq c 5).trans (final_imp m c),
      (h.1.in_eq c 0 rfl).trans (V_main_arg0 m c), (h.1.in_eq c 1 rfl).trans (V_main_arg1 m c),
      (h.1.rest_eq c main_arg2 (by decide)).trans (V_main_arg2 m c), (h.1.in_eq c 3 rfl).trans (V_main_arg3 m c),
      (h.1.rest_eq c main_arg4 (by decide)).trans (V_main_arg4 m c)⟩) (run_main m ρ)

end Cert.KernelIdeal.Hand
-- ==== Proof.Importance.lean ====
/-
  The importance in exact arithmetic: the two layers as sums over whole rows, what the kernel's blocks hold, what the reference
  computes, and that the two agree.
-/
module

public import proofs.«01_k».proof.Proof.Values
public import proofs.«01_k».proof.Proof.Arrays
public import proofs.«01_k».proof.Proof.Reference

@[expose] public section

set_option maxRecDepth 16384

noncomputable section

namespace Cert

open Idealize.ShloMosaic hiding ix1 ix2
open Idealize.ShloMosaic.ValueIdx (ix1 ix2 eq_ix2)

/-! ## The two layers, as mathematics -/

/-- An array of the given extents, of extended reals. -/
abbrev Arr1 (a : ℕ) := (⟨1, ![a]⟩ : Shape).Idx → EReal
abbrev Arr2 (a b : ℕ) := (⟨2, ![a, b]⟩ : Shape).Idx → EReal

section Layers
variable (x : Arr2 128 8192) (w₁ : Arr2 8192 512) (b₁ : Arr1 512) (w₂ : Arr2 512 8192) (b₂ : Arr1 8192)

/-- A unit of the hidden layer. -/
def hidden (i : Fin 128) (l : Fin 512) : EReal :=
  KernelIdeal.Hand.gelu ((∑ k : Fin 8192, x (ix2 i k) * w₁ (ix2 k l)) + b₁ (ix1 l))

/-- The importance of a column in a row. -/
def importance (i : Fin 128) (j : Fin 8192) : EReal :=
  Ideal.logistic ((∑ l : Fin 512, hidden x w₁ b₁ i l * w₂ (ix2 l j)) + b₂ (ix1 j))

end Layers

/-- A sum over 8192 columns is the sum over the first half and the sum over the second. -/
theorem sum_halves (f : Fin 8192 → EReal) :
    ∑ k : Fin 8192, f k = (∑ k : Fin 4096, f ⟨k.val, by omega⟩) + ∑ k : Fin 4096, f ⟨4096 + k.val, by omega⟩ :=
  Fin.sum_univ_add (a := 4096) (b := 4096) f

end Cert

/-! ## The kernel's blocks -/

namespace Cert.KernelIdeal.Hand

open Cert.KernelIdeal Cert.KernelIdeal.Gen
open Idealize.ShloMosaic hiding ix1 ix2
open Idealize.ShloMosaic.TcCoe
open Idealize.ShloMosaic.ValueIdx (ix1 ix2 eq_ix2)

variable (m : (ℓ : Loc nD τ sig) → Buf (Elt Ideal) ℓ) (c : Dev nD)

/-- The five arguments. -/
abbrev argX : Arr2 128 8192 := m ((c : Thread nD τ).loc main_arg0)
abbrev argW1 : Arr2 8192 512 := m ((c : Thread nD τ).loc main_arg1)
abbrev argB1 : Arr1 512 := m ((c : Thread nD τ).loc main_arg2)
abbrev argW2 : Arr2 512 8192 := m ((c : Thread nD τ).loc main_arg3)
abbrev argB2 : Arr1 8192 := m ((c : Thread nD τ).loc main_arg4)

/-- The importance of the kernel's arguments. -/
abbrev imp (i : Fin 128) (j : Fin 8192) : EReal := importance (argX m c) (argW1 m c) (argB1 m c) (argW2 m c) (argB2 m c) i j

/-- Half `k` of the columns, element by element. -/
theorem half_at {α : Type} (x : S128x8192.Idx → α) (k : ℕ) (h : k < 2) (i : Fin 128) (j : Fin 4096) :
    half x k h (ix2 i j) = x (ix2 i ⟨4096 * k + j.val, by omega⟩) := by
  refine congrArg x (funext fun a => Fin.ext ?_)
  match a with
  | ⟨0, _⟩ => exact (show 0 + 1 * i.val = i.val by omega)
  | ⟨1, _⟩ => exact (show 4096 * k + 1 * j.val = 4096 * k + j.val by omega)

/-- Block `k` of the columns, element by element. -/
theorem blk8_at {α : Type} (x : S128x8192.Idx → α) (k : ℕ) (h : k < 4) (i : Fin 128) (j : Fin 2048) :
    blk8 x k h (ix2 i j) = x (ix2 i ⟨2048 * k + j.val, by omega⟩) := by
  refine congrArg x (funext fun a => Fin.ext ?_)
  match a with
  | ⟨0, _⟩ => exact (show 0 + 1 * i.val = i.val by omega)
  | ⟨1, _⟩ => exact (show 2048 * k + 1 * j.val = 2048 * k + j.val by omega)

/-- One half's contribution to the first product. -/
theorem half_sum (k : ℕ) (h : k < 2) (i : Fin 128) (j : Fin 512) :
    (∑ l : Fin 4096, half (inX m c k (by omega)) k h (ix2 i l) * inW1 m c k (by omega) (ix2 l j) : EReal)
      = ∑ l : Fin 4096, argX m c (ix2 i ⟨4096 * k + l.val, by omega⟩) * argW1 m c (ix2 ⟨4096 * k + l.val, by omega⟩ j) := by
  refine Finset.sum_congr rfl fun l _ => ?_
  rw [half_at, inX_at, inW1_at m c k h]

theorem hid1_at (i : Fin 128) (j : Fin 512) :
    hid1 m c (ix2 i j)
      = (∑ l : Fin 4096, argX m c (ix2 i ⟨4096 * 0 + l.val, by omega⟩) * argW1 m c (ix2 ⟨4096 * 0 + l.val, by omega⟩ j) : EReal) := by
  unfold hid1
  rw [pay2_at, half_sum m c 0 (by omega)]
  have e : (k0_pay1 (F := Ideal) (ix2 i j) : EReal) = 0 := by unfold k0_pay1; rw [shapeCast_self]; exact zero_word
  rw [e, zero_add]

theorem hid2_at (i : Fin 128) (j : Fin 512) :
    hid2 m c (ix2 i j) = (∑ l : Fin 8192, argX m c (ix2 i l) * argW1 m c (ix2 l j) : EReal) := by
  unfold hid2
  rw [pay2_at, half_sum m c 1 (by omega), hid1_at, sum_halves]
  refine congrArg₂ (fun a b : EReal => a + b) (Finset.sum_congr rfl fun l _ => ?_) rfl
  have e : (⟨4096 * 0 + l.val, by omega⟩ : Fin 8192) = ⟨l.val, by omega⟩ := Fin.ext (by show 4096 * 0 + l.val = l.val; omega)
  rw [e]

theorem act_at (i : Fin 128) (j : Fin 512) : act m c (ix2 i j) = hidden (argX m c) (argW1 m c) (argB1 m c) i j := by
  unfold act
  rw [pay3_at, hid2_at, inB1_at]; rfl

theorem impOut_at (k : ℕ) (h : k < 4) (i : Fin 128) (j : Fin 2048) :
    impOut m c k h (ix2 i j) = imp m c i ⟨2048 * k + j.val, by omega⟩ := by
  unfold impOut
  rw [pay13_at, inB2_at m c k h]
  refine congrArg (fun z : EReal => Ideal.logistic (z + argB2 m c (ix1 ⟨2048 * k + j.val, by omega⟩))) ?_
  refine Finset.sum_congr rfl fun l _ => ?_
  rw [act_at, inW2_at m c k h]

theorem impBlk_at (k : ℕ) (h : k < 4) (i : Fin 128) (j : Fin 2048) :
    impBlk m c k h (ix2 i j) = imp m c i ⟨2048 * k + j.val, by omega⟩ := by
  unfold impBlk k0_pay14
  rw [shapeCast_self]
  exact impOut_at m c k h i j

theorem impArr_at (i : Fin 128) (j : Fin 8192) : impArr m c (ix2 i j) = imp m c i j := by
  have hk : j.val / 2048 < 4 := by omega
  unfold impArr
  rw [tiles_of (impOut m c) (ix2 i j) (j.val / 2048) hk (ix2 i ⟨j.val % 2048, Nat.mod_lt _ (by omega)⟩) rfl
    (by show j.val = j.val / 2048 * 2048 + j.val % 2048; omega), impOut_at]
  exact congrArg _ (Fin.ext (by show 2048 * (j.val / 2048) + j.val % 2048 = j.val; omega))

end Cert.KernelIdeal.Hand

/-! ## The reference -/

namespace Cert.ReferenceIdeal.Hand

open Cert.ReferenceIdeal Cert.ReferenceIdeal.Gen Cert.ReferenceIdeal.Read
open Idealize.ShloMosaic hiding ix1 ix2
open Idealize.ShloMosaic.TcCoe
open Idealize.ShloMosaic.ValueIdx (ix1 ix2 eq_ix2)

variable (x0 : (⟨S128x8192, .f32⟩ : BufTy).Contents (Elt Ideal)) (x1 : (⟨S8192x512, .f32⟩ : BufTy).Contents (Elt Ideal))
  (x2 : (⟨S512, .f32⟩ : BufTy).Contents (Elt Ideal)) (x3 : (⟨S512x8192, .f32⟩ : BufTy).Contents (Elt Ideal))
  (x4 : (⟨S8192, .f32⟩ : BufTy).Contents (Elt Ideal))

/-- The first layer before its activation. -/
theorem v3_at (i : Fin 128) (l : Fin 512) :
    val_main_v3 (F := Ideal) x0 x1 x2 (ix2 i l) = ((∑ k : Fin 8192, x0 (ix2 i k) * x1 (ix2 k l) : EReal) + x2 (ix1 l)) := by
  rw [val_main_v3_apply, val_main_v0_apply, val_main_v2_apply, val_main_v1_apply]
  have e1 : ∀ k, lidx_main_v0 (ix2 i l) k = ix2 i k := fun k => by
    funext a; match a with
    | ⟨0, _⟩ => rfl
    | ⟨1, _⟩ => rfl
  have e2 : ∀ k, ridx_main_v0 (ix2 i l) k = ix2 k l := fun k => by
    funext a; match a with
    | ⟨0, _⟩ => rfl
    | ⟨1, _⟩ => rfl
  have e3 : idx_main_v1 (idx_main_v2 (ix2 i l)) = ix1 l := by
    funext a; match a with
    | ⟨0, _⟩ => rfl
  simp only [e1, e2, e3]
  rfl

/-- The hidden layer: the complementary error function at the negated argument is one plus the error function. -/
theorem v10_at (i : Fin 128) (l : Fin 512) : val_main_v10 (F := Ideal) x0 x1 x2 (ix2 i l) = hidden x0 x1 x2 i l := by
  unfold hidden KernelIdeal.Hand.gelu
  rw [← Ideal.erfc_neg, ← neg_mul, ← v3_at x0 x1 x2 i l]
  rw [val_main_v10_apply, val_main_v5_apply, val_main_v9_apply, val_main_v8_apply, val_main_v6_apply, val_main_v4_apply, val_main_v7_apply]
  rfl

theorem v14_at (i : Fin 128) (j : Fin 8192) :
    val_main_v14 (F := Ideal) x0 x1 x2 x3 x4 (ix2 i j)
      = ((∑ l : Fin 512, hidden x0 x1 x2 i l * x3 (ix2 l j) : EReal) + x4 (ix1 j)) := by
  rw [val_main_v14_apply, val_main_v11_apply, val_main_v13_apply, val_main_v12_apply]
  have e1 : ∀ k, lidx_main_v11 (ix2 i j) k = ix2 i k := fun k => by
    funext a; match a with
    | ⟨0, _⟩ => rfl
    | ⟨1, _⟩ => rfl
  have e2 : ∀ k, ridx_main_v11 (ix2 i j) k = ix2 k j := fun k => by
    funext a; match a with
    | ⟨0, _⟩ => rfl
    | ⟨1, _⟩ => rfl
  have e3 : idx_main_v12 (idx_main_v13 (ix2 i j)) = ix1 j := by
    funext a; match a with
    | ⟨0, _⟩ => rfl
  simp only [e1, e2, e3, v10_at]
  rfl

/-- The quotient the reference writes its sigmoid as. -/
theorem logistic_quotient (z : EReal) :
    Ideal.div (Scalar.ofBits .f32 0x3F800000#32 : Ideal .f32) ((Scalar.ofBits .f32 0x3F800000#32 : Ideal .f32) + Ideal.exp (-z)) = Ideal.logistic z := by
  rw [KernelIdeal.Hand.one_word]; rfl

theorem v20_at (i : Fin 128) (j : Fin 8192) :
    val_main_v20 (F := Ideal) x0 x1 x2 x3 x4 (ix2 i j) = importance x0 x1 x2 x3 x4 i j := by
  unfold importance
  rw [← v14_at x0 x1 x2 x3 x4 i j, ← logistic_quotient]
  rw [val_main_v20_apply, val_main_v19_apply, val_main_v18_apply, val_main_v17_apply, val_main_v16_apply, val_main_v15_apply]
  rfl

end Cert.ReferenceIdeal.Hand
-- ==== Proof.Words.lean ====
/-
  Two codes packed in one word. Each code is below `2 ^ 15` and lies in its own half with `2 ^ 15` added. After the same bound is
  subtracted from both halves no half borrows from the other, and the top bit of a half says whether its code reaches the bound.
-/
module

public import Mathlib.Data.BitVec
public import Mathlib.Tactic.NormNum

@[expose] public section

namespace Cert.Words

/-- The word holding code `a` in its high half and code `b` in its low half. -/
def pack (a b : ℕ) : BitVec 32 := BitVec.ofNat 32 a <<< 16 + 2147516416#32 + BitVec.ofNat 32 b

theorem toNat_pack {a b : ℕ} (ha : a < 32768) (hb : b < 32768) : (pack a b).toNat = 65536 * (32768 + a) + (32768 + b) := by
  have h1 : (BitVec.ofNat 32 a <<< 16).toNat = 65536 * a := by
    rw [BitVec.toNat_shiftLeft, BitVec.toNat_ofNat, Nat.shiftLeft_eq, Nat.mod_eq_of_lt (a := a) (by omega), Nat.mod_eq_of_lt (by omega)]
    omega
  have h2 : (2147516416#32 : BitVec 32).toNat = 2147516416 := rfl
  have h3 : (BitVec.ofNat 32 b).toNat = b := by rw [BitVec.toNat_ofNat, Nat.mod_eq_of_lt (by omega)]
  unfold pack
  generalize (2147516416#32 : BitVec 32) = k at h2
  rw [BitVec.toNat_add, BitVec.toNat_add, h1, h2, h3, Nat.mod_eq_of_lt (a := 65536 * a + 2147516416) (by omega), Nat.mod_eq_of_lt (by omega)]
  omega

/-- The packed word after the bound `t` is subtracted from both halves. -/
theorem toNat_pack_sub {a b t : ℕ} (ha : a < 32768) (hb : b < 32768) (ht : t < 32768) :
    (pack a b - BitVec.ofNat 32 t * 65537#32).toNat = 65536 * (32768 + a - t) + (32768 + b - t) := by
  have h1 : (65537#32 : BitVec 32).toNat = 65537 := rfl
  have h2 : (BitVec.ofNat 32 t * 65537#32).toNat = t * 65537 := by
    generalize (65537#32 : BitVec 32) = k at h1
    rw [BitVec.toNat_mul, BitVec.toNat_ofNat, h1, Nat.mod_eq_of_lt (a := t) (by omega), Nat.mod_eq_of_lt (by omega)]
  rw [BitVec.toNat_sub_of_le (by rw [BitVec.le_def, h2, toNat_pack ha hb]; omega), h2, toNat_pack ha hb]
  omega

/-- Masking keeps bits 0 and 16. -/
theorem toNat_and_mask (x : BitVec 32) :
    (x &&& 65537#32).toNat = (if x.getLsbD 16 then 65536 else 0) + (if x.getLsbD 0 then 1 else 0) := by
  have h : (65537#32 : BitVec 32) = BitVec.twoPow 32 16 ||| BitVec.twoPow 32 0 := by decide
  rw [h, BitVec.and_or_distrib_left, BitVec.and_twoPow, BitVec.and_twoPow]
  split <;> split <;> decide

/-- The two top bits of a packed word, moved to bits 16 and 0. -/
theorem toNat_top_bits {a b t : ℕ} (ha : a < 32768) (hb : b < 32768) (ht : t < 32768) :
    ((pack a b - BitVec.ofNat 32 t * 65537#32).sshiftRight 15 &&& 65537#32).toNat
      = (if t ≤ a then 65536 else 0) + (if t ≤ b then 1 else 0) := by
  rw [toNat_and_mask]
  have hu := toNat_pack_sub ha hb ht
  generalize pack a b - BitVec.ofNat 32 t * 65537#32 = u at hu
  have h16 : (u.sshiftRight 15).getLsbD 16 = decide (t ≤ a) := by
    rw [BitVec.getLsbD_sshiftRight]
    simp only [show ¬(32 ≤ 16) by omega, decide_false, Bool.not_false, Bool.true_and, show 15 + 16 < 32 by omega, if_true]
    rw [BitVec.getLsbD, Nat.testBit_eq_decide_div_mod_eq, hu]
    exact decide_eq_decide.mpr (by norm_num; omega)
  have h0 : (u.sshiftRight 15).getLsbD 0 = decide (t ≤ b) := by
    rw [BitVec.getLsbD_sshiftRight]
    simp only [show ¬(32 ≤ 0) by omega, decide_false, Bool.not_false, Bool.true_and, show 15 + 0 < 32 by omega, if_true]
    rw [BitVec.getLsbD, Nat.testBit_eq_decide_div_mod_eq, hu]
    exact decide_eq_decide.mpr (by norm_num; omega)
  rw [h16, h0]
  simp only [decide_eq_true_eq]

/-- The two halves of a row's sum, added. -/
theorem toNat_halves (s : BitVec 32) (p q : ℕ) (hp : p ≤ 4096) (hq : q ≤ 4096) (hs : s.toNat = 65536 * p + q) :
    (s.sshiftRight 16 + (s &&& 65535#32)).toNat = p + q := by
  have hm : s.msb = false := by
    rw [BitVec.msb_eq_decide, decide_eq_false_iff_not, hs]; norm_num; omega
  rw [BitVec.sshiftRight_eq_of_msb_false hm, BitVec.toNat_add, BitVec.toNat_ushiftRight, BitVec.toNat_and, hs,
    show (65535#32 : BitVec 32).toNat = 2 ^ 16 - 1 by decide, Nat.and_two_pow_sub_one_eq_mod, Nat.shiftRight_eq_div_pow]
  omega

/-- A small word reaches 256 as a signed number exactly when its value does. -/
theorem sle_256 (s : BitVec 32) (n : ℕ) (hn : n ≤ 8192) (hs : s.toNat = n) : (256#32 : BitVec 32).sle s = decide (256 ≤ n) := by
  have h : s.toInt = n := by rw [BitVec.toInt_eq_toNat_of_lt (by rw [hs]; omega), hs]
  rw [BitVec.sle_eq_decide, h, show (256#32 : BitVec 32).toInt = 256 by decide]
  exact decide_eq_decide.mpr (by omega)

end Cert.Words
-- ==== Proof.Search.lean ====
/-
  The bisection on packed words, row by row: it is the bisection of a counting function on natural numbers, which ends at the
  largest multiple of 16 that at least 256 of the row's codes reach.
-/
module

public import proofs.«01_k».proof.Proof.BodyA
public import proofs.«01_k».proof.Proof.Words
public import Idealize.ShloMosaic.Lib.WordSum
public import Idealize.ShloMosaic.Lib.Pointwise.Reduce
public import Idealize.ShloMosaic.Lib.ValueIdxCore
public import Idealize.ShloMosaic.Lib.Pipeline.Value

@[expose] public section

noncomputable section

/-! ## Bisection of a counting function -/

namespace Cert.Halving

/-- One step: the middle replaces the lower end if at least 256 reach it, and otherwise the upper end. -/
def step (C : ℕ → ℕ) (p : ℕ × ℕ) : ℕ × ℕ :=
  if 256 ≤ C ((p.1 + p.2) / 2) then ((p.1 + p.2) / 2, p.2) else (p.1, (p.1 + p.2) / 2)

/-- What holds of the ends when they are `2 ^ d` apart. -/
def Ends (C : ℕ → ℕ) (d : ℕ) (p : ℕ × ℕ) : Prop :=
  ∃ u, p = (2 ^ d * u, 2 ^ d * u + 2 ^ d) ∧ p.2 ≤ 32768 ∧ (u = 0 ∨ 256 ≤ C p.1) ∧ (p.2 = 32768 ∨ C p.2 < 256)

theorem Ends.step {C : ℕ → ℕ} {d : ℕ} {p : ℕ × ℕ} (h : Ends C (d + 1) p) : Ends C d (step C p) := by
  obtain ⟨u, rfl, hle, hlo, hhi⟩ := h
  have e : 2 ^ (d + 1) = 2 * 2 ^ d := by rw [pow_succ]; omega
  have em : (2 ^ (d + 1) * u + (2 ^ (d + 1) * u + 2 ^ (d + 1))) / 2 = 2 ^ d * (2 * u + 1) := by
    rw [e, show 2 * 2 ^ d * u + (2 * 2 ^ d * u + 2 * 2 ^ d) = 2 * (2 ^ d * (2 * u + 1)) by ring, Nat.mul_div_cancel_left _ (by omega)]
  have el : 2 ^ (d + 1) * u = 2 ^ d * (2 * u) := by rw [e]; ring
  have eh : 2 ^ (d + 1) * u + 2 ^ (d + 1) = 2 ^ d * (2 * u + 1) + 2 ^ d := by rw [e]; ring
  unfold Halving.step
  simp only [em]
  split
  · next h => exact ⟨2 * u + 1, by rw [eh], hle, Or.inr h, hhi⟩
  · next h =>
    refine ⟨2 * u, by rw [el]; exact Prod.ext rfl (by show _ = _; ring), ?_, ?_, Or.inr (not_le.mp h)⟩
    · exact le_trans (by rw [eh]; exact Nat.le_add_right _ _) hle
    · rcases hlo with h0 | h0
      · exact Or.inl (by omega)
      · exact Or.inr h0

/-- After `n` steps. -/
theorem ends_iterate (C : ℕ → ℕ) : ∀ n d, n + d = 15 → Ends C d ((step C)^[n] (0, 32768))
  | 0, d, h => ⟨0, by rw [show d = 15 by omega]; rfl, le_refl _, Or.inl rfl, Or.inl rfl⟩
  | n + 1, d, h => by
    rw [Function.iterate_succ_apply']
    exact (ends_iterate C n (d + 1) (by omega)).step

/-- Where eleven steps end. -/
theorem eleven (C : ℕ → ℕ) : ∃ u, ((step C)^[11] (0, 32768)).1 = 16 * u ∧ u ≤ 2047 ∧ (u = 0 ∨ 256 ≤ C (16 * u))
    ∧ (u = 2047 ∨ C (16 * (u + 1)) < 256) := by
  obtain ⟨u, hp, hle, hlo, hhi⟩ := ends_iterate C 11 4 rfl
  rw [hp] at hle hlo hhi ⊢
  simp only [show 2 ^ 4 = 16 by rfl] at hle hlo hhi ⊢
  refine ⟨u, rfl, by omega, hlo, ?_⟩
  rcases hhi with h | h
  · exact Or.inl (by omega)
  · exact Or.inr (by rw [show 16 * (u + 1) = 16 * u + 16 by ring]; exact h)

end Cert.Halving

/-! ## The kernel's bisection is that one -/

namespace Cert.KernelIdeal.Hand

open Cert.KernelIdeal Cert.KernelIdeal.Gen Cert.Words
open Idealize.ShloMosaic hiding ix2
open Idealize.ShloMosaic.ValueIdx (ix2 eq_ix2)

variable {F : FTy → Type} [FloatOps F]

/-- How many codes of row `r` reach `t`, in both halves of the words. -/
def count (a b : Fin 128 → Fin 4096 → ℕ) (r : Fin 128) (t : ℕ) : ℕ :=
  (Finset.univ.filter fun k => t ≤ a r k).card + (Finset.univ.filter fun k => t ≤ b r k).card

variable {X : Vec F S128x4096 .i32} {a b : Fin 128 → Fin 4096 → ℕ}

/-- The middle of two ends in one row. -/
theorem mid_row (lo hi : IVec S128x1 32) (j : S128x1.Idx) (l h : ℕ) (hl : lo j = BitVec.ofNat 32 l) (hh : hi j = BitVec.ofNat 32 h)
    (hlt : l < h) (hle : h ≤ 32768) : k0_pay7 lo hi j = BitVec.ofNat 32 ((l + h) / 2) := by
  show IntOp.shrsi .vector (lo j + hi j) 1#32 = _
  rw [hl, hh]
  unfold IntOp.shrsi
  rw [if_pos (by decide)]
  show BitVec.sshiftRight _ 1 = _
  have hn : (BitVec.ofNat 32 l + BitVec.ofNat 32 h).toNat = l + h := by
    rw [← BitVec.ofNat_add, BitVec.toNat_ofNat, Nat.mod_eq_of_lt (by omega)]
  generalize BitVec.ofNat 32 l + BitVec.ofNat 32 h = s at hn
  have hm : s.msb = false := by
    rw [BitVec.msb_eq_decide, decide_eq_false_iff_not, hn]; norm_num; omega
  apply BitVec.eq_of_toNat_eq
  rw [BitVec.sshiftRight_eq_of_msb_false hm, BitVec.toNat_ushiftRight, hn, BitVec.toNat_ofNat, Nat.shiftRight_eq_div_pow,
    Nat.mod_eq_of_lt (by omega)]

/-- The marks of a row's words, summed along the row. -/
theorem sum_marks (r : Fin 128) (t : ℕ) :
    ∑ k, ((if t ≤ a r k then 65536 else 0) + (if t ≤ b r k then 1 else 0))
      = 65536 * (Finset.univ.filter fun k => t ≤ a r k).card + (Finset.univ.filter fun k => t ≤ b r k).card := by
  rw [Finset.sum_add_distrib, ← Finset.sum_filter, ← Finset.sum_filter, Finset.sum_const, Finset.sum_const, smul_eq_mul, smul_eq_mul,
    mul_one, mul_comm]

theorem card_row_le (p : Fin 4096 → Prop) [DecidablePred p] : (Finset.univ.filter p).card ≤ 4096 :=
  (Finset.card_le_univ _).trans (by rw [Fintype.card_fin])

/-- What the kernel compares with 256: how many codes of the row reach the middle. -/
theorem reaches_row (hX : ∀ r k, X (ix2 r k) = pack (a r k) (b r k)) (ha : ∀ r k, a r k < 32768) (hb : ∀ r k, b r k < 32768)
    (lo hi : IVec S128x1 32) (r : Fin 128) (t : ℕ) (ht : t < 32768) (hm : k0_pay7 lo hi (ix2 r 0) = BitVec.ofNat 32 t) :
    k0_pay8 lo hi X (ix2 r 0) = BitVec.ofBool (decide (256 ≤ count a b r t)) := by
  unfold k0_pay8
  set src : IVec S128x4096 32 := andi (shrsi (subi X (broadcastTo S128x4096 (muli (k0_pay7 lo hi) (broadcast S128x1 65537#32)) broadcasts_S128x1_S128x4096))
    (broadcast S128x4096 15#32)) (broadcast S128x4096 65537#32) with hsrc
  have hk : ∀ k : Fin 4096, (src (ix2 r k)).toNat = (if t ≤ a r k then 65536 else 0) + (if t ≤ b r k then 1 else 0) := by
    intro k
    have e : src (ix2 r k) = (pack (a r k) (b r k) - BitVec.ofNat 32 t * 65537#32).sshiftRight 15 &&& 65537#32 := by
      have hb' : broadcastTo S128x4096 (muli (k0_pay7 lo hi) (broadcast S128x1 65537#32)) broadcasts_S128x1_S128x4096 (ix2 r k)
          = BitVec.ofNat 32 t * 65537#32 := by
        rw [broadcastTo_apply _ _ _ (ix2 r 0) fun a => ?_]
        · show k0_pay7 lo hi (ix2 r 0) * 65537#32 = _
          rw [hm]
        · match a with
          | ⟨0, _⟩ => rfl
          | ⟨1, _⟩ => rfl
      rw [← hb', ← hX, hsrc]
      show IntOp.shrsi .vector _ 15#32 &&& _ = _
      unfold IntOp.shrsi
      rw [if_pos (by decide)]
      rfl
    rw [e]
    exact toNat_top_bits (ha _ _) (hb _ _) ht
  have hs : (shapeCast S128x1 (multiReductionI .add [1] S128 src 0#32 reduces_S128x4096_S128 rfl) shapeCasts_S128_S128x1 (ix2 r 0)).toNat
      = 65536 * (Finset.univ.filter fun k => t ≤ a r k).card + (Finset.univ.filter fun k => t ≤ b r k).card := by
    rw [shapeCast_apply _ shapeCasts_S128_S128x1 (ix2 r 0) (ValueIdx.ix1 r) (by
      rw [Shape.rowMajor_val_one, Shape.rowMajor_val_two]
      show r.val = r.val * 1 + 0
      omega)]
    have hsum : ∑ i ∈ Finset.univ.filter (fun i => reduces_S128x4096_S128.drop i = ValueIdx.ix1 r), (src i).toNat
        = 65536 * (Finset.univ.filter fun k => t ≤ a r k).card + (Finset.univ.filter fun k => t ≤ b r k).card := by
      rw [Shape.Reduces.sum_fiber_r2_a1, ← sum_marks]
      exact Finset.sum_congr rfl fun k _ => hk k
    have h1 := card_row_le fun k => t ≤ a r k
    have h2 := card_row_le fun k => t ≤ b r k
    exact (WordSum.toNat_multiReductionI_add src reduces_S128x4096_S128 rfl (ValueIdx.ix1 r) (by rw [hsum]; omega)).trans hsum
  generalize shapeCast S128x1 (multiReductionI .add [1] S128 src 0#32 reduces_S128x4096_S128 rfl) shapeCasts_S128_S128x1 = s at hs
  show BitVec.ofBool ((256#32 : BitVec 32).sle (IntOp.shrsi .vector (s (ix2 r 0)) 16#32 + (s (ix2 r 0) &&& 65535#32))) = _
  unfold IntOp.shrsi
  rw [if_pos (by decide)]
  exact congrArg _ (sle_256 _ _ (Nat.add_le_add (card_row_le _) (card_row_le _))
    (toNat_halves (s (ix2 r 0)) _ _ (card_row_le _) (card_row_le _) hs))

/-- One trip of the kernel's bisection, in one row. -/
theorem bisect_row (hX : ∀ r k, X (ix2 r k) = pack (a r k) (b r k)) (ha : ∀ r k, a r k < 32768) (hb : ∀ r k, b r k < 32768)
    (s : IVec S128x1 32 × IVec S128x1 32) (r : Fin 128) (p : ℕ × ℕ) (hl : s.1 (ix2 r 0) = BitVec.ofNat 32 p.1) (hh : s.2 (ix2 r 0) = BitVec.ofNat 32 p.2)
    (hlt : p.1 < p.2) (hle : p.2 ≤ 32768) :
    (bisect X s).1 (ix2 r 0) = BitVec.ofNat 32 (Halving.step (count a b r) p).1
      ∧ (bisect X s).2 (ix2 r 0) = BitVec.ofNat 32 (Halving.step (count a b r) p).2 := by
  have hm := mid_row s.1 s.2 (ix2 r 0) p.1 p.2 hl hh hlt hle
  have h8 := reaches_row hX ha hb s.1 s.2 r _ (by omega) hm
  have e1 : (bisect X s).1 (ix2 r 0) = Scalar.select (k0_pay8 s.1 s.2 X (ix2 r 0)) (k0_pay7 s.1 s.2 (ix2 r 0)) (s.1 (ix2 r 0)) := rfl
  have e2 : (bisect X s).2 (ix2 r 0) = Scalar.select (k0_pay8 s.1 s.2 X (ix2 r 0)) (s.2 (ix2 r 0)) (k0_pay7 s.1 s.2 (ix2 r 0)) := rfl
  rw [e1, e2, h8, hm, hl, hh]
  unfold Halving.step
  by_cases h : 256 ≤ count a b r ((p.1 + p.2) / 2)
  · rw [if_pos h, decide_eq_true h]; exact ⟨rfl, rfl⟩
  · rw [if_neg h, decide_eq_false h]; exact ⟨rfl, rfl⟩

/-- The kernel's bisection after `n` trips, in one row. -/
theorem bisect_iterate (hX : ∀ r k, X (ix2 r k) = pack (a r k) (b r k)) (ha : ∀ r k, a r k < 32768) (hb : ∀ r k, b r k < 32768)
    (r : Fin 128) : ∀ n ≤ 11,
    ((bisect X)^[n] (k0_pay5, k0_pay6)).1 (ix2 r 0) = BitVec.ofNat 32 ((Halving.step (count a b r))^[n] (0, 32768)).1
      ∧ ((bisect X)^[n] (k0_pay5, k0_pay6)).2 (ix2 r 0) = BitVec.ofNat 32 ((Halving.step (count a b r))^[n] (0, 32768)).2
  | 0, _ => ⟨rfl, rfl⟩
  | n + 1, h => by
    have ih := bisect_iterate hX ha hb r n (by omega)
    obtain ⟨u, hp, hle, -, -⟩ := Halving.ends_iterate (count a b r) n (15 - n) (by omega)
    rw [Function.iterate_succ_apply', Function.iterate_succ_apply']
    refine bisect_row hX ha hb _ r _ ih.1 ih.2 ?_ hle
    rw [hp]; exact Nat.lt_add_of_pos_right (Nat.pow_pos (by omega))

/-- Where the kernel's bisection ends in a row: at `16 u`, which at least 256 codes reach unless it is zero, while fewer reach
    `16 (u + 1)` unless it is past the largest code. -/
theorem search_row (hX : ∀ r k, X (ix2 r k) = pack (a r k) (b r k)) (ha : ∀ r k, a r k < 32768) (hb : ∀ r k, b r k < 32768)
    (r : Fin 128) : ∃ u, search X (ix2 r 0) = BitVec.ofNat 32 (16 * u) ∧ u ≤ 2047 ∧ (u = 0 ∨ 256 ≤ count a b r (16 * u))
      ∧ (u = 2047 ∨ count a b r (16 * (u + 1)) < 256) := by
  obtain ⟨u, hu, h⟩ := Halving.eleven (count a b r)
  exact ⟨u, ((bisect_iterate hX ha hb r 11 (le_refl _)).1).trans (by rw [hu]), h⟩

end Cert.KernelIdeal.Hand
-- ==== Proof.Order.lean ====
/-
  The value at a place of a row sorted from the largest down, by counting: at most the value at place `k` is exactly what at
  least `k + 1` of the row's elements reach.
-/
module

public import Idealize.ShloMosaic.Lib.SortFacts
public import Mathlib.Order.Interval.Finset.Fin

@[expose] public section

namespace Cert.Order

open Idealize.ShloMosaic

variable {α : Type} [LinearOrder α] {n : ℕ}

/-- How many elements of a row reach `y`. -/
def reach (x : Fin n → α) (y : α) : ℕ := (Finset.univ.filter fun j => y ≤ x j).card

/-- Fewer elements reach more. -/
theorem reach_anti (x : Fin n → α) {y z : α} (h : y ≤ z) : reach x z ≤ reach x y :=
  Finset.card_le_card fun _ hj => Finset.mem_filter.mpr ⟨Finset.mem_univ _, h.trans (Finset.mem_filter.mp hj).2⟩

/-- The row's element at place `k` of a sort by `B`, the larger first. -/
theorem le_sorted_iff (x : Fin n → α) (B : Fin n → Fin n → Bool) (hB : ∀ a b, B a b = true ↔ x b < x a) (k : Fin n) (y : α) :
    y ≤ x (sortedFrom B k) ↔ k.val + 1 ≤ reach x y := by
  have hn : ∀ a b, B a b = false ↔ x a ≤ x b := fun a b => by rw [← Bool.not_eq_true, hB, not_lt]
  have hmono : ∀ i j : Fin n, i < j → x (sortedFrom B j) ≤ x (sortedFrom B i) := fun i j hij =>
    (hn _ _).mp (sortedFrom_noInversion B B (fun a b h => (hn b a).mpr ((hB a b).mp h).le) (fun _ _ h => h)
      (fun a b c h h' => (hn a c).mpr (((hn a b).mp h).trans ((hn b c).mp h'))) i j hij)
  have hcard : reach x y = (Finset.univ.filter fun i => y ≤ x (sortedFrom B i)).card := by
    symm
    unfold reach
    refine Finset.card_bij (fun i _ => sortedFrom B i) (fun i hi => ?_) (fun i _ j _ h => sortedFrom_injective B h) (fun j hj => ?_)
    · exact Finset.mem_filter.mpr ⟨Finset.mem_univ _, (Finset.mem_filter.mp hi).2⟩
    · obtain ⟨i, rfl⟩ := sortedFrom_surjective B j
      exact ⟨i, Finset.mem_filter.mpr ⟨Finset.mem_univ _, (Finset.mem_filter.mp hj).2⟩, rfl⟩
  rw [hcard]
  constructor
  · intro h
    rw [← Fin.card_Iic k]
    refine Finset.card_le_card fun i hi => Finset.mem_filter.mpr ⟨Finset.mem_univ _, h.trans ?_⟩
    rcases (Finset.mem_Iic.mp hi).lt_or_eq with h' | h'
    · exact hmono i k h'
    · rw [h']
  · intro h
    by_contra hlt
    have hlt := not_le.mp hlt
    have : (Finset.univ.filter fun i => y ≤ x (sortedFrom B i)).card ≤ k.val := by
      rw [← Fin.card_Iio k]
      refine Finset.card_le_card fun i hi => Finset.mem_Iio.mpr ?_
      by_contra hk
      have hy := (Finset.mem_filter.mp hi).2
      rcases (not_lt.mp hk).lt_or_eq with h' | h'
      · exact absurd (hy.trans (hmono k i h')) (not_le.mpr hlt)
      · subst h'; exact absurd hy (not_le.mpr hlt)
    omega

end Cert.Order
-- ==== Proof.Codes.lean ====
/-
  The codes the kernel searches among: the importance lies between nought and one, its code is the whole part of 32768 times it,
  and counting the codes that reach a multiple of 16 is counting the importances that reach that multiple of 1/2048.
-/
module

public import proofs.«01_k».proof.Proof.Importance
public import proofs.«01_k».proof.Proof.Search
public import proofs.«01_k».proof.Proof.Order

@[expose] public section

set_option maxRecDepth 16384

noncomputable section

namespace Cert.Codes

open Idealize.ShloMosaic hiding ix1 ix2

/-- The logistic function's values are reals between nought and one. -/
theorem logistic_real (z : EReal) : ∃ s : ℝ, 0 ≤ s ∧ s ≤ 1 ∧ Ideal.logistic z = (s : EReal) := by
  induction z with
  | bot => exact ⟨0, le_rfl, zero_le_one, by simp⟩
  | top => exact ⟨1, zero_le_one, le_rfl, by simp⟩
  | coe r =>
    have h : 0 < Real.exp (-r) := Real.exp_pos _
    exact ⟨(1 + Real.exp (-r))⁻¹, by positivity, inv_le_one_of_one_le₀ (by linarith), Ideal.logistic_coe r⟩

/-- The code of an importance. -/
def code (s : ℝ) : ℕ := ⌊min (s * 32768) 32767⌋₊

theorem code_lt (s : ℝ) : code s < 32768 :=
  (Nat.floor_lt' (by norm_num)).mpr (by have := min_le_right (s * 32768) 32767; push_cast; linarith)

theorem word_32768 : (Scalar.ofBits .f32 0x47000000#32 : Ideal .f32) = ((32768 : ℝ) : EReal) := by
  simp [Ideal.ofBits, Ideal.ieee, -EReal.coe_mul]; norm_num
theorem word_32767 : (Scalar.ofBits .f32 0x46FFFE00#32 : Ideal .f32) = ((32767 : ℝ) : EReal) := by
  simp [Ideal.ofBits, Ideal.ieee, -EReal.coe_mul]; norm_num

/-- What the kernel converts to an integer is the code. -/
theorem fptosi_code {s : ℝ} (h : 0 ≤ s) :
    Ideal.fptosi 32 (min ((s : EReal) * (Scalar.ofBits .f32 0x47000000#32 : Ideal .f32)) (Scalar.ofBits .f32 0x46FFFE00#32 : Ideal .f32))
      = BitVec.ofNat 32 (code s) := by
  rw [word_32768, word_32767, ← EReal.coe_mul, ← EReal.coe_strictMono.monotone.map_min]
  have h0 : 0 ≤ min (s * 32768) 32767 := le_min (by positivity) (by norm_num)
  rw [Ideal.fptosi, Ideal.toIntClamped_coe, if_pos h0, ← Int.natCast_floor_eq_floor h0]
  have hc := code_lt s
  show BitVec.ofInt 32 (max _ (min _ ((code s : ℕ) : ℤ))) = _
  rw [min_eq_right (by norm_num; omega), max_eq_right (by norm_num), BitVec.ofInt_natCast]

/-- A code reaches a multiple of 16 exactly where the importance reaches that multiple of 1/2048. -/
theorem le_code_iff {s : ℝ} (h : 0 ≤ s) {u : ℕ} (hu : u ≤ 2047) : 16 * u ≤ code s ↔ ((u / 2048 : ℝ) : EReal) ≤ (s : EReal) := by
  have h0 : 0 ≤ min (s * 32768) 32767 := le_min (by positivity) (by norm_num)
  have hu' : (u : ℝ) ≤ 2047 := by exact_mod_cast hu
  unfold code
  rw [Nat.le_floor_iff h0, EReal.coe_le_coe_iff, le_min_iff]
  push_cast
  constructor
  · intro g; have := g.1; linarith
  · intro g; constructor <;> linarith

/-- The elements of a row of 8192 that satisfy something, counted by halves. -/
theorem card_halves (p : Fin 8192 → Prop) [DecidablePred p] :
    (Finset.univ.filter p).card
      = (Finset.univ.filter fun k : Fin 4096 => p ⟨k.val, by omega⟩).card
        + (Finset.univ.filter fun k : Fin 4096 => p ⟨4096 + k.val, by omega⟩).card := by
  simp only [Finset.card_filter]
  exact Fin.sum_univ_add (a := 4096) (b := 4096) fun j => if p j then 1 else 0

end Cert.Codes

namespace Cert.KernelIdeal.Hand

open Cert.KernelIdeal Cert.KernelIdeal.Gen Cert.Codes Cert.Order Cert.Words
open Idealize.ShloMosaic hiding ix1 ix2
open Idealize.ShloMosaic.TcCoe
open Idealize.ShloMosaic.ValueIdx (ix1 ix2 eq_ix2)

variable (m : (ℓ : Loc nD τ sig) → Buf (Elt Ideal) ℓ) (c : Dev nD)

/-- The importance as a real. -/
def impReal (i : Fin 128) (j : Fin 8192) : ℝ := (imp m c i j).toReal

theorem imp_real (i : Fin 128) (j : Fin 8192) :
    0 ≤ impReal m c i j ∧ impReal m c i j ≤ 1 ∧ imp m c i j = (impReal m c i j : EReal) := by
  obtain ⟨s, h0, h1, hs⟩ := logistic_real ((∑ l : Fin 512, hidden (argX m c) (argW1 m c) (argB1 m c) i l * argW2 m c (ix2 l j)) + argB2 m c (ix1 j))
  have e : imp m c i j = (s : EReal) := hs
  have e' : impReal m c i j = s := by unfold impReal; rw [e, EReal.toReal_coe]
  rw [e']; exact ⟨h0, h1, e⟩

/-- The integer the kernel makes of block `k`'s importance. -/
theorem code_at (k : ℕ) (h : k < 4) (i : Fin 128) (j : Fin 2048) :
    k0_pay15 (F := Ideal) (act m c) (inW2 m c (k + 2) (by omega)) (inB2 m c (k + 2) (by omega)) (ix2 i j)
      = BitVec.ofNat 32 (code (impReal m c i ⟨2048 * k + j.val, by omega⟩)) := by
  obtain ⟨h0, -, hs⟩ := imp_real m c i ⟨2048 * k + j.val, by omega⟩
  rw [← fptosi_code h0, ← hs, ← impOut_at m c k h i j]
  rfl

/-- A code in a word's high half. -/
theorem pay16_at (v18 : Vec Ideal S128x512 .f32) (v19 : Vec Ideal S512x2048 .f32) (v21 : Vec Ideal S1x2048 .f32) (y : S128x2048.Idx) :
    k0_pay16 (F := Ideal) v18 v19 v21 y = k0_pay15 (F := Ideal) v18 v19 v21 y <<< 16 + 2147516416#32 := by
  unfold k0_pay16
  rw [shapeCast_self]
  rfl
/-- A code added into a word's low half. -/
theorem pay4_at (v36 : IVec S128x2048 32) (v55 : Vec Ideal S128x2048 .i32) (y : S128x2048.Idx) :
    k0_pay4 (F := Ideal) v36 v55 y = v55 y + v36 y := by
  unfold k0_pay4
  rw [shapeCast_self]
  rfl

/-- The packed word of a column of the first half and the same column of the second, block by block. -/
theorem qFull_at (k : ℕ) (h : k < 2) (i : Fin 128) (j : Fin 2048) :
    qFull m c k h (ix2 i j)
      = pack (code (impReal m c i ⟨2048 * k + j.val, by omega⟩)) (code (impReal m c i ⟨4096 + (2048 * k + j.val), by omega⟩)) := by
  have e : (⟨2048 * (k + 2) + j.val, by omega⟩ : Fin 8192) = ⟨4096 + (2048 * k + j.val), by omega⟩ :=
    Fin.ext (by show 2048 * (k + 2) + j.val = 4096 + (2048 * k + j.val); omega)
  have hlo := code_at m c k (by omega) i j
  have hhi := code_at m c (k + 2) (by omega) i j
  rw [e] at hhi
  unfold qFull qHigh pack
  rw [pay4_at, pay16_at, ← hlo, ← hhi]

theorem words_at (r : Fin 128) (k : Fin 4096) :
    words m c (ix2 r k) = pack (code (impReal m c r ⟨k.val, by omega⟩)) (code (impReal m c r ⟨4096 + k.val, by omega⟩)) := by
  unfold words glue
  by_cases hk : k.val < 2048
  · rw [dif_pos (show ((ix2 r k : S128x4096.Idx) 1).val < 2048 from hk)]
    refine (qFull_at m c 0 (by omega) r ⟨k.val, hk⟩).trans ?_
    simp only [Nat.mul_zero, Nat.zero_add]
  · rw [dif_neg (show ¬ ((ix2 r k : S128x4096.Idx) 1).val < 2048 from hk)]
    refine (qFull_at m c 1 (by omega) r ⟨k.val - 2048, by omega⟩).trans ?_
    have e : 2048 * 1 + (k.val - 2048) = k.val := by omega
    simp only [e]

/-- The search's counts, in terms of the importance. -/
theorem count_eq (r : Fin 128) {u : ℕ} (hu : u ≤ 2047) :
    count (fun r k => code (impReal m c r ⟨k.val, by omega⟩)) (fun r k => code (impReal m c r ⟨4096 + k.val, by omega⟩)) r (16 * u)
      = reach (imp m c r) ((u / 2048 : ℝ) : EReal) := by
  unfold count reach
  rw [card_halves]
  have key : ∀ j, 16 * u ≤ code (impReal m c r j) ↔ ((u / 2048 : ℝ) : EReal) ≤ imp m c r j := fun j => by
    rw [le_code_iff (imp_real m c r j).1 hu, (imp_real m c r j).2.2]
  simp only [key]

/-- What the search ends with, in terms of the importance. -/
theorem search_imp (r : Fin 128) : ∃ u : ℕ, search (F := Ideal) (words m c) (ix2 r 0) = BitVec.ofNat 32 (16 * u) ∧ u ≤ 2047
    ∧ (u = 0 ∨ 256 ≤ reach (imp m c r) ((u / 2048 : ℝ) : EReal))
    ∧ (u = 2047 ∨ reach (imp m c r) (((u + 1 : ℕ) / 2048 : ℝ) : EReal) < 256) := by
  obtain ⟨u, h1, h2, h3, h4⟩ := search_row (F := Ideal) (words_at m c) (fun _ _ => code_lt _) (fun _ _ => code_lt _) r
  refine ⟨u, h1, h2, h3.imp_right fun h => ?_, ?_⟩
  · rw [← count_eq m c r h2]; exact h
  · by_cases e : u = 2047
    · exact .inl e
    · refine .inr ?_
      rw [← count_eq m c r (show u + 1 ≤ 2047 by omega)]
      exact h4.resolve_left e

end Cert.KernelIdeal.Hand
-- ==== Proof.Threshold.lean ====
/-
  The threshold: the reference's, from the 256th largest importance of a row, is the one the kernel's search ends with.
-/
module

public import proofs.«01_k».proof.Proof.Codes

@[expose] public section

set_option maxRecDepth 16384

noncomputable section

namespace Cert.ReferenceIdeal.Hand

open Cert.ReferenceIdeal Cert.ReferenceIdeal.Gen Cert.ReferenceIdeal.Read Cert.Order Cert.Codes
open Idealize.ShloMosaic hiding ix1 ix2
open Idealize.ShloMosaic.TcCoe
open Idealize.ShloMosaic.ValueIdx (ix1 ix2 eq_ix2)

variable (x0 : (⟨S128x8192, .f32⟩ : BufTy).Contents (Elt Ideal)) (x1 : (⟨S8192x512, .f32⟩ : BufTy).Contents (Elt Ideal))
  (x2 : (⟨S512, .f32⟩ : BufTy).Contents (Elt Ideal)) (x3 : (⟨S512x8192, .f32⟩ : BufTy).Contents (Elt Ideal))
  (x4 : (⟨S8192, .f32⟩ : BufTy).Contents (Elt Ideal))

/-- The order the rows are sorted by. -/
def before (y : Fin 8192 → EReal) (k k' : Fin 8192) : Bool := Ideal.cmpTotal .gt (y k) (y k') == 1#1

theorem before_iff (y : Fin 8192 → EReal) (k k' : Fin 8192) : before y k k' = true ↔ y k' < y k := by
  show (BitVec.ofBool (decide (y k' < y k)) == 1#1) = true ↔ _
  by_cases h : y k' < y k <;> simp [h]

/-- The 256th largest element of each row. -/
theorem v21_at (r : Fin 128) : val_main_v21 (F := Ideal) x0 x1 x2 x3 x4 (ix2 r 0)
    = importance x0 x1 x2 x3 x4 r (sortedFrom (before (importance x0 x1 x2 x3 x4 r)) ⟨255, by omega⟩) := by
  have along : ∀ k : Fin 8192, (ix2 (n0 := 128) (n1 := 8192) r ⟨255, by omega⟩ : S128x8192.Idx).along 1 k = ix2 r k := fun k => by
    funext a; match a with
    | ⟨0, _⟩ => rfl
    | ⟨1, _⟩ => rfl
  rw [val_main_v21_apply]
  unfold val_main_values
  have e : ∀ y : S128x8192.Idx → EReal, (Host.topK S128x256 1 (FloatOps.cmpfTotal (F := Ideal) (φ := .f32) .gt) y sliceFits_S128x8192_S128x256).1 (idx_main_v21 (ix2 r 0))
      = y (ix2 r (sortedFrom (before fun k => y (ix2 r k)) ⟨255, by omega⟩)) := fun y => by
    unfold Host.topK
    dsimp only
    refine (extractStridedSlice_apply _ _ sliceFits_S128x8192_S128x256 (idx_main_v21 (ix2 r 0)) (ix2 r ⟨255, by omega⟩) (fun a => match a with
      | ⟨0, _⟩ => (by show r.val = 0 + r.val; omega)
      | ⟨1, _⟩ => (by show 255 = 0 + (255 + 0); omega))).trans ?_
    unfold Host.sort2
    rw [dif_pos (show 1 < S128x8192.rank by decide)]
    show y ((ix2 r ⟨255, _⟩ : S128x8192.Idx).along 1 (sortedFrom (fun k k' : Fin 8192 =>
      Ideal.cmpTotal .gt (y ((ix2 r ⟨255, _⟩ : S128x8192.Idx).along 1 k)) (y ((ix2 r ⟨255, _⟩ : S128x8192.Idx).along 1 k')) == 1#1) ⟨255, _⟩)) = _
    simp only [along]
    exact congrArg y (along _)
  rw [e, v20_at]
  simp only [v20_at]

/-- The rounding of the threshold: down to a multiple of 1/2048, and to 2047/2048 at most. -/
theorem v28_at (r : Fin 128) : val_main_v28 (F := Ideal) x0 x1 x2 x3 x4 (ix2 r 0)
    = (min (Ideal.liftRound Int.floor (val_main_v21 (F := Ideal) x0 x1 x2 x3 x4 (ix2 r 0) * (Scalar.ofBits .f32 0x45000000#32 : Ideal .f32)))
        (Scalar.ofBits .f32 0x44FFE000#32 : Ideal .f32) * (Scalar.ofBits .f32 0x3A000000#32 : Ideal .f32) : EReal) := by
  rw [val_main_v28_apply, val_main_v26_apply, val_main_v24_apply, val_main_v23_apply, val_main_v22_apply, val_main_v25_apply, val_main_v27_apply]
  rfl

theorem word_2048 : (Scalar.ofBits .f32 0x45000000#32 : Ideal .f32) = ((2048 : ℝ) : EReal) := by
  simp [Ideal.ofBits, Ideal.ieee, -EReal.coe_mul]; norm_num
theorem word_2047 : (Scalar.ofBits .f32 0x44FFE000#32 : Ideal .f32) = ((2047 : ℝ) : EReal) := by
  simp [Ideal.ofBits, Ideal.ieee, -EReal.coe_mul]; norm_num
theorem word_inv2048 : (Scalar.ofBits .f32 0x3A000000#32 : Ideal .f32) = ((1 / 2048 : ℝ) : EReal) := by
  simp [Ideal.ofBits, Ideal.ieee, -EReal.coe_mul]; norm_num
theorem word_inv32768 : (Scalar.ofBits .f32 0x38000000#32 : Ideal .f32) = ((1 / 32768 : ℝ) : EReal) := by
  simp [Ideal.ofBits, Ideal.ieee, -EReal.coe_mul]; norm_num

/-- The rounding of a threshold between `u / 2048` and the next multiple, or past the last one. -/
theorem rounding {s : ℝ} {u : ℕ} (hu : u ≤ 2047) (h0 : (u / 2048 : ℝ) ≤ s) (h1 : u = 2047 ∨ s < ((u + 1 : ℕ) / 2048 : ℝ)) :
    (min (Ideal.liftRound Int.floor ((s : EReal) * (Scalar.ofBits .f32 0x45000000#32 : Ideal .f32)))
        (Scalar.ofBits .f32 0x44FFE000#32 : Ideal .f32) * (Scalar.ofBits .f32 0x3A000000#32 : Ideal .f32) : EReal) = ((u / 2048 : ℝ) : EReal) := by
  rw [word_2048, word_2047, word_inv2048, ← EReal.coe_mul, Ideal.liftRound_coe, ← EReal.coe_strictMono.monotone.map_min, ← EReal.coe_mul]
  have h2 : (u : ℤ) ≤ ⌊s * 2048⌋ := Int.le_floor.mpr (by push_cast; linarith)
  have h2' : (u : ℝ) ≤ (⌊s * 2048⌋ : ℝ) := by exact_mod_cast h2
  have e : min (⌊s * 2048⌋ : ℝ) 2047 = u := by
    rcases h1 with h1 | h1
    · subst h1; push_cast at h2' ⊢; exact min_eq_right h2'
    · have h3 : ⌊s * 2048⌋ < (u : ℤ) + 1 := Int.floor_lt.mpr (by push_cast at h1 ⊢; linarith)
      have h4 : ⌊s * 2048⌋ = (u : ℤ) := by omega
      rw [h4]; push_cast
      exact min_eq_left (by exact_mod_cast hu)
  rw [e]; congr 1; ring

end Cert.ReferenceIdeal.Hand

namespace Cert.KernelIdeal.Hand

open Cert.KernelIdeal Cert.KernelIdeal.Gen Cert.Codes Cert.Order Cert.ReferenceIdeal.Hand
open Idealize.ShloMosaic hiding ix1 ix2
open Idealize.ShloMosaic.TcCoe
open Idealize.ShloMosaic.ValueIdx (ix1 ix2 eq_ix2)

variable (m : (ℓ : Loc nD τ sig) → Buf (Elt Ideal) ℓ) (c : Dev nD)

/-- The kernel's threshold is the reference's. -/
theorem thrB_at (r j : Fin 128) : thrB m c (ix2 r j)
    = ReferenceIdeal.Read.val_main_v28 (F := Ideal) (argX m c) (argW1 m c) (argB1 m c) (argW2 m c) (argB2 m c) (ix2 r 0) := by
  obtain ⟨u, hs, hu, h3, h4⟩ := search_imp m c r
  have hsort := fun y : EReal => le_sorted_iff (imp m c r) (before (imp m c r)) (before_iff _) ⟨255, by omega⟩ y
  generalize hk : sortedFrom (before (imp m c r)) ⟨255, by omega⟩ = k at hsort
  obtain ⟨p0, -, hp⟩ := imp_real m c r k
  rw [hp] at hsort
  have l0 : (u / 2048 : ℝ) ≤ impReal m c r k := by
    rcases h3 with h3 | h3
    · subst h3; simpa using p0
    · exact EReal.coe_le_coe_iff.mp ((hsort _).mpr h3)
  have l1 : u = 2047 ∨ impReal m c r k < ((u + 1 : ℕ) / 2048 : ℝ) := h4.imp_right fun h =>
    lt_of_not_ge fun g => absurd ((hsort _).mp (EReal.coe_le_coe_iff.mpr g)) (by show ¬ (256 ≤ _); omega)
  have e21 := v21_at (argX m c) (argW1 m c) (argB1 m c) (argW2 m c) (argB2 m c) r
  rw [hk] at e21
  replace e21 := e21.trans hp
  rw [v28_at, e21, rounding hu l0 l1]
  unfold thrB
  rw [pay11_at, hs, word_inv32768, ← EReal.coe_mul, BitVec.toInt_ofNat']
  refine congrArg _ ?_
  have hb : ((16 * u : ℕ) : ℤ).bmod (2 ^ 32) = ((16 * u : ℕ) : ℤ) := by
    rw [Int.bmod_eq_of_le] <;> norm_num <;> omega
  rw [hb]
  push_cast; ring

end Cert.KernelIdeal.Hand
-- ==== Proof.Equation.lean ====
/-
  The equation: what the kernel's two results hold after its run is what the reference computes from the same arguments.
-/
module

public import proofs.«01_k».proof.Proof.Threshold

@[expose] public section

set_option maxRecDepth 16384

noncomputable section

namespace Cert.KernelIdeal.Hand

open Cert.KernelIdeal Cert.KernelIdeal.Gen Cert.ReferenceIdeal.Hand Cert.ReferenceIdeal.Read
open Idealize.ShloMosaic hiding ix1 ix2 eq_ix2
open Idealize.ShloMosaic.TcCoe
open Idealize.ShloMosaic.ValueIdx (ix1 ix2 eq_ix2)

/-- The reference's gated result, element by element. -/
theorem v39_at (x0 : Arr2 128 8192) (x1 : Arr2 8192 512) (x2 : Arr1 512) (x3 : Arr2 512 8192) (x4 : Arr1 8192) (i : Fin 128) (j : Fin 8192) :
    val_main_v39 (F := Ideal) x0 x1 x2 x3 x4 (ix2 i j)
      = (x0 (ix2 i j) * Ideal.logistic ((Scalar.ofBits .f32 0x41200000#32 : Ideal .f32)
          * (importance x0 x1 x2 x3 x4 i j - val_main_v28 (F := Ideal) x0 x1 x2 x3 x4 (ix2 i 0))) : EReal) := by
  have e : idx_main_v29 (ix2 i j) = ix2 i 0 := by
    funext a; match a with
    | ⟨0, _⟩ => rfl
    | ⟨1, _⟩ => rfl
  rw [← v20_at x0 x1 x2 x3 x4 i j, ← logistic_quotient, ← e, ← val_main_v29_apply]
  rw [val_main_v39_apply, val_main_v38_apply, val_main_v37_apply, val_main_v36_apply, val_main_v35_apply, val_main_v34_apply,
    val_main_v33_apply, val_main_v32_apply, val_main_v31_apply, val_main_v30_apply]
  rfl

variable (m : (ℓ : Loc nD τ sig) → Buf (Elt Ideal) ℓ) (c : Dev nD)

theorem gateBlk_at (k : ℕ) (h : k < 4) (i : Fin 128) (j : Fin 2048) :
    gateBlk m c k h (ix2 i j)
      = val_main_v39 (F := Ideal) (argX m c) (argW1 m c) (argB1 m c) (argW2 m c) (argB2 m c) (ix2 i ⟨2048 * k + j.val, by omega⟩) := by
  have e : VecWindow.window (s := S128x128) (thrB m c) ![0, 0] S128x1.size inb_S128x128_S128x1_0_0 (ix2 i 0) = thrB m c (ix2 i 0) := by
    refine congrArg (thrB m c) (funext fun a => Fin.ext ?_)
    match a with
    | ⟨0, _⟩ => exact (show 0 + 1 * i.val = i.val by omega)
    | ⟨1, _⟩ => rfl
  unfold gateBlk
  rw [pay12_at, v39_at, e, thrB_at, impBlk_at m c k h, blk8_at, inX_at]

theorem gateArr_at (i : Fin 128) (j : Fin 8192) : gateArr m c (ix2 i j)
    = val_main_v39 (F := Ideal) (argX m c) (argW1 m c) (argB1 m c) (argW2 m c) (argB2 m c) (ix2 i j) := by
  have hk : j.val / 2048 < 4 := by omega
  unfold gateArr
  rw [tiles_of (gateBlk m c) (ix2 i j) (j.val / 2048) hk (ix2 i ⟨j.val % 2048, Nat.mod_lt _ (by omega)⟩) rfl
    (by show j.val = j.val / 2048 * 2048 + j.val % 2048; omega), gateBlk_at]
  exact congrArg (fun k => val_main_v39 (F := Ideal) (argX m c) (argW1 m c) (argB1 m c) (argW2 m c) (argB2 m c) (ix2 i k))
    (Fin.ext (by show 2048 * (j.val / 2048) + j.val % 2048 = j.val; omega))

theorem gateArr_eq : gateArr m c = val_main_v39 (F := Ideal) (argX m c) (argW1 m c) (argB1 m c) (argW2 m c) (argB2 m c) := by
  funext y
  obtain ⟨i, j, rfl⟩ : ∃ (i : Fin 128) (j : Fin 8192), y = ix2 i j := ⟨y 0, y 1, eq_ix2 y⟩
  exact gateArr_at m c i j

theorem impArr_eq : impArr m c = val_main_v20 (F := Ideal) (argX m c) (argW1 m c) (argB1 m c) (argW2 m c) (argB2 m c) := by
  funext y
  obtain ⟨i, j, rfl⟩ : ∃ (i : Fin 128) (j : Fin 8192), y = ix2 i j := ⟨y 0, y 1, eq_ix2 y⟩
  exact (impArr_at m c i j).trans (v20_at _ _ _ _ _ i j).symm

end Cert.KernelIdeal.Hand
-- ==== Proof.lean ====
/-
  The claim: the three frames, the idealization, and the value equation.
-/
module

public import proofs.«01_k».proof.Defs
public import proofs.«01_k».proof.Proof.Run
public import proofs.«01_k».proof.Proof.Word.Run
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem

/-- From equal arguments the kernel, in exact arithmetic, and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.gateArr m c, fun c => Cert.KernelIdeal.Hand.impArr m c, Cert.KernelIdeal.Hand.run_values m g, ?_⟩
  refine (θ_run _ _ _).mono (fun r h c => ?_) (Cert.ReferenceIdeal.Hand.run_values m' g')
  obtain ⟨e39, e20, hkeep⟩ := h c
  obtain ⟨h0, h1, h2, h3, h4⟩ := hargs c
  rw [h0, h1, h2, h3, h4] at e39 e20
  exact ⟨e39.trans (Cert.KernelIdeal.Hand.gateArr_eq m c).symm, e20.trans (Cert.KernelIdeal.Hand.impArr_eq m c).symm, hkeep⟩

theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => Cert.ReferenceIdeal.Hand.frame m g, trivial, algebraic⟩

end Cert.Proof

end
